-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_v208) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_attention_finite : Cert.Pre_attention_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_attention_finite (hKernelIdeal := hKernelIdeal) (hReferenceIdeal := hReferenceIdeal) (hPre_attention_finite := hPre_attention_finite)
    ∧ preserves_Kernel2_Kernel2Ideal
    ∧ algebraic_Kernel2Ideal_Reference2Ideal (hKernel2Ideal := hKernel2Ideal) (hReference2Ideal := hReference2Ideal)
-- ==== Pre_attention_finite.lean ====
abbrev S32x2048x1024 : Shape := ⟨3, ![32, 2048, 1024]⟩
abbrev S1x1024 : Shape := ⟨2, ![1, 1024]⟩
abbrev S1x1024x3840 : Shape := ⟨3, ![1, 1024, 3840]⟩
abbrev S1x8 : Shape := ⟨2, ![1, 8]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩
abbrev S1x1024x640 : Shape := ⟨3, ![1, 1024, 640]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x3840_S1x1024x640_0_0_0 : S1x1024x3840.Slices ![0, 0, 0] S1x1024x640
  bcast_S_S1x1024x640 : S_.BroadcastsInDim S1x1024x640 (![] : Fin 0 → Fin S1x1024x640.rank)
  reducesTo_S1x1024x640_S_d0_1_2 : S1x1024x640.ReducesTo [0, 1, 2] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S32x2048x1024 .f32) (main_arg1 : FVec F S1x1024 .f32) (main_arg2 : FVec F S1x1024x3840 .f32) (main_arg3 : FVec F S1x8 .f32) (main_arg4 : FVec F S1x512 .f32) (main_arg5 : FVec F S1x512 .f32) (main_arg6 : FVec F S1x4x128x128 .f32) (main_arg7 : FVec F S1x4x128 .f32) (main_arg8 : FVec F S1x512x1024 .f32) (main_arg9 : FVec F S1x512x1024 .f32) (main_arg10 : FVec F S1x1024x1024 .f32) (main_arg11 : FVec F S1x1024 .f32) (main_arg12 : FVec F S1x1024x2816 .f32) (main_arg13 : FVec F S1x1024x2816 .f32) (main_arg14 : FVec F S1x2816x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x640 .f32 := (extractStridedSlice S1x1024x640 ![0, 0, 0] · slices_S1x1024x3840_S1x1024x640_0_0_0) main_arg2
  let main_v5 : FVec F S1x1024x640 .f32 := Host.absf main_v4
  let main_cst_0 : FVec F S_ .f32 := constant S_ .f32 0x7F800000#32
  let main_v6 : FVec F S1x1024x640 .f32 := broadcastInDim S1x1024x640 ![] bcast_S_S1x1024x640 main_cst_0
  let main_v7 : IVec S1x1024x640 1 := cmpf .olt main_v5 main_v6
  let main_c_1 : IVec S_ 1 := constantI S_ 1 1#1
  let main_v8 : IVec S_ 1 := (fun x v => Host.reduce IntOp.andi x v reducesTo_S1x1024x640_S_d0_1_2 h_S_) main_v7 main_c_1
  let main_v9 : IVec S_ 1 := andi main_v3 main_v8
  let main_cst_2 : FVec F S_ .f32 := constant S_ .f32 0x7F800000#32
  let main_v10 : FVec F S1x8 .f32 := broadcastInDim S1x8 ![] bcast_S_S1x8 main_cst_2
  let main_v11 : IVec S1x8 1 := cmpf .olt main_arg3 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v9 main_v12
  main_v13
-- ==== Kernel.lean ====
abbrev S32x2048x1024 : Shape := ⟨3, ![32, 2048, 1024]⟩
abbrev S1x1024 : Shape := ⟨2, ![1, 1024]⟩
abbrev S1x1024x3840 : Shape := ⟨3, ![1, 1024, 3840]⟩
abbrev S1x8 : Shape := ⟨2, ![1, 8]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x3840 : Shape := ⟨2, ![1024, 3840]⟩
abbrev S8 : Shape := ⟨1, ![8]⟩
abbrev S2x4 : Shape := ⟨2, ![2, 4]⟩
abbrev S2x4x128 : Shape := ⟨3, ![2, 4, 128]⟩
abbrev S2x512 : Shape := ⟨2, ![2, 512]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S16x2816 : Shape := ⟨2, ![16, 2816]⟩
abbrev S176x256 : Shape := ⟨2, ![176, 256]⟩
abbrev S2x128x256 : Shape := ⟨3, ![2, 128, 256]⟩
abbrev S2x128x128 : Shape := ⟨3, ![2, 128, 128]⟩
abbrev S256x128 : Shape := ⟨2, ![256, 128]⟩
abbrev S256x512 : Shape := ⟨2, ![256, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S256x256 : Shape := ⟨2, ![256, 256]⟩
abbrev S128x256 : Shape := ⟨2, ![128, 256]⟩
abbrev S1x128x256 : Shape := ⟨3, ![1, 128, 256]⟩
abbrev S1x128x128 : Shape := ⟨3, ![1, 128, 128]⟩
abbrev S128x128 : Shape := ⟨2, ![128, 128]⟩
abbrev S64x128 : Shape := ⟨2, ![64, 128]⟩
abbrev S64x256 : Shape := ⟨2, ![64, 256]⟩
abbrev S512x128 : Shape := ⟨2, ![512, 128]⟩
abbrev S128x1 : Shape := ⟨2, ![128, 1]⟩
abbrev S64x512 : Shape := ⟨2, ![64, 512]⟩
abbrev S128x512 : Shape := ⟨2, ![128, 512]⟩
abbrev S512x256 : Shape := ⟨2, ![512, 256]⟩

abbrev nBuf : Space → Nat
  | .hbm => 45
  | .vmem => 29
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3840, .f32⟩
  | .hbm, ⟨3, _⟩ => ⟨S1x8, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024, .f32⟩
  | .hbm, ⟨16, _⟩ => ⟨S1x1024, .f32⟩
  | .hbm, ⟨17, _⟩ => ⟨S1024x3840, .f32⟩
  | .hbm, ⟨18, _⟩ => ⟨S1024x3840, .bf16⟩
  | .hbm, ⟨19, _⟩ => ⟨S8, .f32⟩
  | .hbm, ⟨20, _⟩ => ⟨S2x4, .f32⟩
  | .hbm, ⟨21, _⟩ => ⟨S2x4x128, .f32⟩
  | .hbm, ⟨22, _⟩ => ⟨S2x512, .f32⟩
  | .hbm, ⟨23, _⟩ => ⟨S512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S4x128x128, .f32⟩
  | .hbm, ⟨28, _⟩ => ⟨S4x128, .f32⟩
  | .hbm, ⟨29, _⟩ => ⟨S128x4, .f32⟩
  | .hbm, ⟨30, _⟩ => ⟨S512x1024, .f32⟩
  | .hbm, ⟨31, _⟩ => ⟨S512x1024, .bf16⟩
  | .hbm, ⟨32, _⟩ => ⟨S512x1024, .f32⟩
  | .hbm, ⟨33, _⟩ => ⟨S512x1024, .bf16⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S1024x2816, .f32⟩
  | .hbm, ⟨39, _⟩ => ⟨S1024x2816, .f32⟩
  | .hbm, ⟨40, _⟩ => ⟨S2816x1024, .f32⟩
  | .hbm, ⟨41, _⟩ => ⟨S32x2048x1024, .f32⟩
  | .hbm, ⟨42, _⟩ => ⟨S1024x2816, .bf16⟩
  | .hbm, ⟨43, _⟩ => ⟨S1024x2816, .bf16⟩
  | .hbm, ⟨44, _⟩ => ⟨S2816x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3840, .bf16⟩
  | .local _ .vmem, ⟨4, _⟩ => ⟨S2x512, .f32⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S16x2816, .f32⟩
  | .local _ .vmem, ⟨14, _⟩ => ⟨S16x2816, .f32⟩
  | .local _ .vmem, ⟨15, _⟩ => ⟨S16x2816, .f32⟩
  | .local _ .vmem, ⟨16, _⟩ => ⟨S16x2816, .f32⟩
  | .local _ .vmem, ⟨17, _⟩ => ⟨S176x256, .f32⟩
  | .local _ .vmem, ⟨18, _⟩ => ⟨S176x256, .f32⟩
  | .local _ .vmem, ⟨19, _⟩ => ⟨S1x1024x1024, .f32⟩
  | .local _ .vmem, ⟨20, _⟩ => ⟨S1x1024x1024, .f32⟩
  | .local _ .vmem, ⟨21, _⟩ => ⟨S16x2816, .bf16⟩
  | .local _ .vmem, ⟨22, _⟩ => ⟨S16x2816, .bf16⟩
  | .local _ .vmem, ⟨23, _⟩ => ⟨S16x2816, .bf16⟩
  | .local _ .vmem, ⟨24, _⟩ => ⟨S16x2816, .bf16⟩
  | .local _ .vmem, ⟨25, _⟩ => ⟨S176x256, .bf16⟩
  | .local _ .vmem, ⟨26, _⟩ => ⟨S176x256, .bf16⟩
  | .local _ .vmem, ⟨27, _⟩ => ⟨S2x128x256, .bf16⟩
  | .local _ .vmem, ⟨28, _⟩ => ⟨S2x128x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![32, 2], ![false, false]⟩

def k0_off1 (i : grid0.Coords) : Fin 3 → Nat :=
  let arg1 : BitVec 32 := BitVec.ofNat 32 (i 1).val
  let c2_i32 : BitVec 32 := 2#32
  let v155 : BitVec 32 := Scalar.remsi arg1 c2_i32
  let v156 : Index := Scalar.indexCast v155
  let c0_72 : Index := 0#32
  let c0_73 : Index := 0#32
  ![v156.toNat, 0, 0]
def k0_off2 (i : grid0.Coords) : Fin 3 → Nat :=
  let arg1 : BitVec 32 := BitVec.ofNat 32 (i 1).val
  let c2_i32 : BitVec 32 := 2#32
  let v155 : BitVec 32 := Scalar.remsi arg1 c2_i32
  let v159 : Index := Scalar.indexCast v155
  let c0_74 : Index := 0#32
  let c0_75 : Index := 0#32
  ![v159.toNat, 0, 0]
def k0_off3 (i : grid0.Coords) : Fin 3 → Nat :=
  let c1_i32 : BitVec 32 := 1#32
  let arg1 : BitVec 32 := BitVec.ofNat 32 (i 1).val
  let c2_i32_109 : BitVec 32 := 2#32
  let v414 : BitVec 32 := Scalar.remsi arg1 c2_i32_109
  let v417 : BitVec 32 := Scalar.subi c1_i32 v414
  let v418 : Index := Scalar.indexCast v417
  let c0_110 : Index := 0#32
  let c0_111 : Index := 0#32
  ![v418.toNat, 0, 0]
def k0_off4 (i : grid0.Coords) : Fin 3 → Nat :=
  let c1_i32_112 : BitVec 32 := 1#32
  let arg1 : BitVec 32 := BitVec.ofNat 32 (i 1).val
  let c2_i32_109 : BitVec 32 := 2#32
  let v414 : BitVec 32 := Scalar.remsi arg1 c2_i32_109
  let v422 : BitVec 32 := Scalar.subi c1_i32_112 v414
  let v423 : Index := Scalar.indexCast v422
  let c0_113 : Index := 0#32
  let c0_114 : Index := 0#32
  ![v423.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S16x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S176x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S32x2048x1024 : Shape := ⟨3, ![32, 2048, 1024]⟩
abbrev S1x1024 : Shape := ⟨2, ![1, 1024]⟩
abbrev S1x1024x3840 : Shape := ⟨3, ![1, 1024, 3840]⟩
abbrev S1x8 : Shape := ⟨2, ![1, 8]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x3840 : Shape := ⟨2, ![1024, 3840]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S32x2048x3840 : Shape := ⟨3, ![32, 2048, 3840]⟩
abbrev S32x2048x512 : Shape := ⟨3, ![32, 2048, 512]⟩
abbrev S32x2048x128 : Shape := ⟨3, ![32, 2048, 128]⟩
abbrev S32x2048x8x64 : Shape := ⟨4, ![32, 2048, 8, 64]⟩
abbrev S32x2048x2x64 : Shape := ⟨4, ![32, 2048, 2, 64]⟩
abbrev S32x16x128x2x4x64 : Shape := ⟨6, ![32, 16, 128, 2, 4, 64]⟩
abbrev S32x2176x2x64 : Shape := ⟨4, ![32, 2176, 2, 64]⟩
abbrev S32x17x128x2x64 : Shape := ⟨5, ![32, 17, 128, 2, 64]⟩
abbrev S32x16x128x2x64 : Shape := ⟨5, ![32, 16, 128, 2, 64]⟩
abbrev S32x16x256x2x64 : Shape := ⟨5, ![32, 16, 256, 2, 64]⟩
abbrev S32x2x16x256x128x4 : Shape := ⟨6, ![32, 2, 16, 256, 128, 4]⟩
abbrev S32x2x4x16x128x256 : Shape := ⟨6, ![32, 2, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S1x2x4x1x128x256 : Shape := ⟨6, ![1, 2, 4, 1, 128, 256]⟩
abbrev S2x4x1x1 : Shape := ⟨4, ![2, 4, 1, 1]⟩
abbrev S32x2x4x16x128 : Shape := ⟨5, ![32, 2, 4, 16, 128]⟩
abbrev S1x2x4x1x1 : Shape := ⟨5, ![1, 2, 4, 1, 1]⟩
abbrev S32x2x4x16x128x1 : Shape := ⟨6, ![32, 2, 4, 16, 128, 1]⟩
abbrev S32x16x2x64x4x128 : Shape := ⟨6, ![32, 16, 2, 64, 4, 128]⟩
abbrev S1x1x512 : Shape := ⟨3, ![1, 1, 512]⟩
abbrev S32x16x128x4x128 : Shape := ⟨5, ![32, 16, 128, 4, 128]⟩
abbrev S128x128 : Shape := ⟨2, ![128, 128]⟩
abbrev S1x128x128 : Shape := ⟨3, ![1, 128, 128]⟩
abbrev S4x32x16x128x128 : Shape := ⟨5, ![4, 32, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1024x2816 : Shape := ⟨2, ![1024, 2816]⟩
abbrev S2816x1024 : Shape := ⟨2, ![2816, 1024]⟩

abbrev nBuf : Space → Nat
  | .hbm => 271
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x3840, .f32⟩
  | 3 => ⟨S1x8, .f32⟩
  | 4 => ⟨S1x512, .f32⟩
  | 5 => ⟨S1x512, .f32⟩
  | 6 => ⟨S1x4x128x128, .f32⟩
  | 7 => ⟨S1x4x128, .f32⟩
  | 8 => ⟨S1x512x1024, .f32⟩
  | 9 => ⟨S1x512x1024, .f32⟩
  | 10 => ⟨S1x1024x1024, .f32⟩
  | 11 => ⟨S1x1024, .f32⟩
  | 12 => ⟨S1x1024x2816, .f32⟩
  | 13 => ⟨S1x1024x2816, .f32⟩
  | 14 => ⟨S1x2816x1024, .f32⟩
  | 15 => ⟨S1024, .f32⟩
  | 16 => ⟨S32x2048x1024, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S_, .f32⟩
  | 24 => ⟨S32x2048x1, .f32⟩
  | 25 => ⟨S32x2048x1, .f32⟩
  | 26 => ⟨S32x2048x1, .f32⟩
  | 27 => ⟨S32x2048x1024, .f32⟩
  | 28 => ⟨S32x2048x1024, .f32⟩
  | 29 => ⟨S1x1x1024, .f32⟩
  | 30 => ⟨S32x2048x1024, .f32⟩
  | 31 => ⟨S32x2048x1024, .f32⟩
  | 32 => ⟨S1024x3840, .f32⟩
  | 33 => ⟨S8, .f32⟩
  | 34 => ⟨S512, .f32⟩
  | 35 => ⟨S512, .f32⟩
  | 36 => ⟨S4x128x128, .f32⟩
  | 37 => ⟨S4x128, .f32⟩
  | 38 => ⟨S512x1024, .f32⟩
  | 39 => ⟨S512x1024, .f32⟩
  | 40 => ⟨S1024x1024, .f32⟩
  | 41 => ⟨S32x2048x3840, .f32⟩
  | 42 => ⟨S32x2048x512, .f32⟩
  | 43 => ⟨S32x2048x128, .f32⟩
  | 44 => ⟨S32x2048x128, .f32⟩
  | 45 => ⟨S32x2048x1024, .f32⟩
  | 46 => ⟨S32x2048x1024, .f32⟩
  | 47 => ⟨S32x2048x1024, .f32⟩
  | 48 => ⟨S32x2048x8x64, .f32⟩
  | 49 => ⟨S32x2048x2x64, .f32⟩
  | 50 => ⟨S32x2048x2x64, .f32⟩
  | 51 => ⟨S32x16x128x2x4x64, .f32⟩
  | 52 => ⟨S_, .i32⟩
  | 53 => ⟨S_, .f32⟩
  | 54 => ⟨S32x2176x2x64, .f32⟩
  | 55 => ⟨S32x17x128x2x64, .f32⟩
  | 56 => ⟨S_, .i32⟩
  | 57 => ⟨S_, .f32⟩
  | 58 => ⟨S32x2176x2x64, .f32⟩
  | 59 => ⟨S32x17x128x2x64, .f32⟩
  | 60 => ⟨S32x16x128x2x64, .f32⟩
  | 61 => ⟨S32x16x128x2x64, .f32⟩
  | 62 => ⟨S32x16x256x2x64, .f32⟩
  | 63 => ⟨S32x16x128x2x64, .f32⟩
  | 64 => ⟨S32x16x128x2x64, .f32⟩
  | 65 => ⟨S32x16x256x2x64, .f32⟩
  | 66 => ⟨S32x2x16x256x128x4, .f32⟩
  | 67 => ⟨S32x2x4x16x128x256, .f32⟩
  | 68 => ⟨S_, .f32⟩
  | 69 => ⟨S32x2x4x16x128x256, .f32⟩
  | 70 => ⟨S32x2x4x16x128x256, .f32⟩
  | 71 => ⟨S128, .i32⟩
  | 72 => ⟨S128x1, .i32⟩
  | 73 => ⟨S256, .i32⟩
  | 74 => ⟨S1x256, .i32⟩
  | 75 => ⟨S_, .i32⟩
  | 76 => ⟨S128x1, .i32⟩
  | 77 => ⟨S128x1, .i32⟩
  | 78 => ⟨S128x256, .i32⟩
  | 79 => ⟨S128x256, .i32⟩
  | 80 => ⟨S128x256, .i32⟩
  | 81 => ⟨S16, .i32⟩
  | 82 => ⟨S16x1x1, .i32⟩
  | 83 => ⟨S_, .i32⟩
  | 84 => ⟨S16x1x1, .i32⟩
  | 85 => ⟨S16x1x1, .i32⟩
  | 86 => ⟨S_, .i32⟩
  | 87 => ⟨S16x1x1, .i32⟩
  | 88 => ⟨S16x1x1, .i32⟩
  | 89 => ⟨S1x1x256, .i32⟩
  | 90 => ⟨S16x1x256, .i32⟩
  | 91 => ⟨S16x1x256, .i32⟩
  | 92 => ⟨S16x1x256, .i32⟩
  | 93 => ⟨S1x128x256, .i32⟩
  | 94 => ⟨S_, .i32⟩
  | 95 => ⟨S1x128x256, .i32⟩
  | 96 => ⟨S1x128x256, .i1⟩
  | 97 => ⟨S1x128x256, .i32⟩
  | 98 => ⟨S_, .i32⟩
  | 99 => ⟨S1x128x256, .i32⟩
  | 100 => ⟨S1x128x256, .i1⟩
  | 101 => ⟨S1x128x256, .i1⟩
  | 102 => ⟨S_, .i32⟩
  | 103 => ⟨S16x1x256, .i32⟩
  | 104 => ⟨S16x1x256, .i1⟩
  | 105 => ⟨S16x128x256, .i1⟩
  | 106 => ⟨S16x128x256, .i1⟩
  | 107 => ⟨S16x128x256, .i1⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S2x4, .f32⟩
  | 122 => ⟨S2x4x1x1x1, .f32⟩
  | 123 => ⟨S2x4x1x1x1, .f32⟩
  | 124 => ⟨S128x256, .f32⟩
  | 125 => ⟨S1x1x1x128x256, .f32⟩
  | 126 => ⟨S2x4x1x128x256, .f32⟩
  | 127 => ⟨S2x4x1x128x256, .f32⟩
  | _ => ⟨S32x2048x1024, .f32⟩

abbrev hbmTy0_1 (i : Nat) : BufTy := match i % 128 with
  | 0 => ⟨S2x4x1x128x256, .f32⟩
  | 1 => ⟨S1x2x4x1x128x256, .f32⟩
  | 2 => ⟨S32x2x4x16x128x256, .f32⟩
  | 3 => ⟨S32x2x4x16x128x256, .f32⟩
  | 4 => ⟨S_, .f32⟩
  | 5 => ⟨S_, .f32⟩
  | 6 => ⟨S32x2x4x16x128x256, .i1⟩
  | 7 => ⟨S32x2x4x16x128x256, .f32⟩
  | 8 => ⟨S32x2x4x16x128x256, .f32⟩
  | 9 => ⟨S2x4, .f32⟩
  | 10 => ⟨S2x4x1x1, .f32⟩
  | 11 => ⟨S_, .f32⟩
  | 12 => ⟨S32x2x4x16x128, .f32⟩
  | 13 => ⟨S1x2x4x1x1, .f32⟩
  | 14 => ⟨S32x2x4x16x128, .f32⟩
  | 15 => ⟨S32x2x4x16x128, .f32⟩
  | 16 => ⟨S32x2x4x16x128x1, .f32⟩
  | 17 => ⟨S32x2x4x16x128x256, .f32⟩
  | 18 => ⟨S32x2x4x16x128x256, .f32⟩
  | 19 => ⟨S32x2x4x16x128x256, .f32⟩
  | 20 => ⟨S_, .f32⟩
  | 21 => ⟨S32x2x4x16x128, .f32⟩
  | 22 => ⟨S1x2x4x1x1, .f32⟩
  | 23 => ⟨S32x2x4x16x128, .f32⟩
  | 24 => ⟨S32x2x4x16x128, .f32⟩
  | 25 => ⟨S32x2x4x16x128, .f32⟩
  | 26 => ⟨S32x2x4x16x128, .f32⟩
  | 27 => ⟨S32x2x4x16x128x1, .f32⟩
  | 28 => ⟨S32x2x4x16x128x256, .f32⟩
  | 29 => ⟨S32x2x4x16x128x256, .f32⟩
  | 30 => ⟨S32x16x2x64x4x128, .f32⟩
  | 31 => ⟨S32x16x128x2x4x64, .f32⟩
  | 32 => ⟨S32x2048x512, .f32⟩
  | 33 => ⟨S_, .f32⟩
  | 34 => ⟨S32x2048x1024, .f32⟩
  | 35 => ⟨S32x2048x1024, .f32⟩
  | 36 => ⟨S32x2048x1024, .f32⟩
  | 37 => ⟨S_, .f32⟩
  | 38 => ⟨S32x2048x1024, .f32⟩
  | 39 => ⟨S32x2048x1024, .f32⟩
  | 40 => ⟨S32x2048x1024, .f32⟩
  | 41 => ⟨S32x2048x1024, .f32⟩
  | 42 => ⟨S32x2048x512, .f32⟩
  | 43 => ⟨S32x2048x512, .f32⟩
  | 44 => ⟨S_, .f32⟩
  | 45 => ⟨S32x2048, .f32⟩
  | 46 => ⟨S32x2048x1, .f32⟩
  | 47 => ⟨S_, .f32⟩
  | 48 => ⟨S32x2048x1, .f32⟩
  | 49 => ⟨S32x2048x1, .f32⟩
  | 50 => ⟨S32x2048x512, .f32⟩
  | 51 => ⟨S32x2048x512, .f32⟩
  | 52 => ⟨S32x2048x512, .f32⟩
  | 53 => ⟨S_, .f32⟩
  | 54 => ⟨S32x2048, .f32⟩
  | 55 => ⟨S32x2048x1, .f32⟩
  | 56 => ⟨S_, .f32⟩
  | 57 => ⟨S32x2048x1, .f32⟩
  | 58 => ⟨S32x2048x1, .f32⟩
  | 59 => ⟨S32x2048x512, .f32⟩
  | 60 => ⟨S32x2048x512, .f32⟩
  | 61 => ⟨S_, .f32⟩
  | 62 => ⟨S32x2048x1, .f32⟩
  | 63 => ⟨S32x2048x1, .f32⟩
  | 64 => ⟨S32x2048x1, .f32⟩
  | 65 => ⟨S32x2048x512, .f32⟩
  | 66 => ⟨S32x2048x512, .f32⟩
  | 67 => ⟨S1x1x512, .f32⟩
  | 68 => ⟨S32x2048x512, .f32⟩
  | 69 => ⟨S32x2048x512, .f32⟩
  | 70 => ⟨S1x1x512, .f32⟩
  | 71 => ⟨S32x2048x512, .f32⟩
  | 72 => ⟨S32x2048x512, .f32⟩
  | 73 => ⟨S32x16x128x4x128, .f32⟩
  | 74 => ⟨S_, .f32⟩
  | 75 => ⟨S128x128, .f32⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .f32⟩
  | 83 => ⟨S128x128, .f32⟩
  | 84 => ⟨S128x128, .f32⟩
  | 85 => ⟨S1x128x128, .f32⟩
  | 86 => ⟨S4x128x128, .f32⟩
  | 87 => ⟨S4x128x128, .f32⟩
  | 88 => ⟨S4x32x16x128x128, .f32⟩
  | 89 => ⟨S32x16x128x4x128, .f32⟩
  | 90 => ⟨S128x4, .f32⟩
  | 91 => ⟨S128x4x1, .f32⟩
  | 92 => ⟨S1x1x128x4x1, .f32⟩
  | 93 => ⟨S32x16x128x4x128, .f32⟩
  | 94 => ⟨S32x16x128x4x128, .f32⟩
  | 95 => ⟨S32x2048x512, .f32⟩
  | 96 => ⟨S32x2048x512, .f32⟩
  | 97 => ⟨S32x2048x1024, .f32⟩
  | 98 => ⟨S32x2048x1024, .f32⟩
  | 99 => ⟨S32x2048x1024, .f32⟩
  | 100 => ⟨S32x2048x1024, .f32⟩
  | 101 => ⟨S_, .f32⟩
  | 102 => ⟨S32x2048x1024, .f32⟩
  | 103 => ⟨S32x2048x1024, .f32⟩
  | 104 => ⟨S_, .f32⟩
  | 105 => ⟨S32x2048x1024, .f32⟩
  | 106 => ⟨S32x2048x1024, .f32⟩
  | 107 => ⟨S32x2048x1024, .f32⟩
  | 108 => ⟨S32x2048x1024, .f32⟩
  | 109 => ⟨S32x2048x1024, .f32⟩
  | 110 => ⟨S_, .f32⟩
  | 111 => ⟨S32x2048x1024, .f32⟩
  | 112 => ⟨S32x2048x1024, .f32⟩
  | 113 => ⟨S_, .f32⟩
  | 114 => ⟨S32x2048x1024, .f32⟩
  | 115 => ⟨S32x2048x1024, .f32⟩
  | 116 => ⟨S32x2048x1024, .f32⟩
  | 117 => ⟨S32x2048x1024, .f32⟩
  | 118 => ⟨S32x2048x1024, .f32⟩
  | 119 => ⟨S1024, .f32⟩
  | 120 => ⟨S32x2048x1024, .f32⟩
  | 121 => ⟨S_, .f32⟩
  | 122 => ⟨S32x2048, .f32⟩
  | 123 => ⟨S32x2048x1, .f32⟩
  | 124 => ⟨S_, .f32⟩
  | 125 => ⟨S32x2048x1, .f32⟩
  | 126 => ⟨S32x2048x1, .f32⟩
  | 127 => ⟨S_, .f32⟩
  | _ => ⟨S32x2048x1024, .f32⟩

abbrev hbmTy0_2 (i : Nat) : BufTy := match i % 128 with
  | 0 => ⟨S32x2048x1, .f32⟩
  | 1 => ⟨S32x2048x1, .f32⟩
  | 2 => ⟨S32x2048x1, .f32⟩
  | 3 => ⟨S32x2048x1024, .f32⟩
  | 4 => ⟨S32x2048x1024, .f32⟩
  | 5 => ⟨S1x1x1024, .f32⟩
  | 6 => ⟨S32x2048x1024, .f32⟩
  | 7 => ⟨S32x2048x1024, .f32⟩
  | 8 => ⟨S32x2048x1024, .f32⟩
  | 9 => ⟨S1024x2816, .f32⟩
  | 10 => ⟨S1024x2816, .bf16⟩
  | 11 => ⟨S1024x2816, .f32⟩
  | 12 => ⟨S1024x2816, .bf16⟩
  | 13 => ⟨S2816x1024, .f32⟩
  | 14 => ⟨S2816x1024, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_c_2 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_3 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_5 : Ref sig .tc := ⟨.hbm, 83, rfl⟩
abbrev main_v59 : Ref sig .tc := ⟨.hbm, 84, rfl⟩
abbrev main_v60 : Ref sig .tc := ⟨.hbm, 85, rfl⟩
abbrev main_c_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_7 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_8 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_cst_11 : Ref sig .tc := ⟨.hbm, 112, rfl⟩
abbrev main_v82 : Ref sig .tc := ⟨.hbm, 113, rfl⟩
abbrev main_v83 : Ref sig .tc := ⟨.hbm, 114, rfl⟩
abbrev main_cst_12 : Ref sig .tc := ⟨.hbm, 115, rfl⟩
abbrev main_v84 : Ref sig .tc := ⟨.hbm, 116, rfl⟩
abbrev main_v85 : Ref sig .tc := ⟨.hbm, 117, rfl⟩
abbrev main_cst_13 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_14 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_15 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_16 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_17 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_18 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_19 : Ref sig .tc := ⟨.hbm, 172, rfl⟩
abbrev main_v131 : Ref sig .tc := ⟨.hbm, 173, rfl⟩
abbrev main_v132 : Ref sig .tc := ⟨.hbm, 174, rfl⟩
abbrev main_cst_20 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_21 : Ref sig .tc := ⟨.hbm, 181, rfl⟩
abbrev main_v138 : Ref sig .tc := ⟨.hbm, 182, rfl⟩
abbrev main_v139 : Ref sig .tc := ⟨.hbm, 183, rfl⟩
abbrev main_cst_22 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_23 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_24 : Ref sig .tc := ⟨.hbm, 202, rfl⟩
abbrev main_v156 : Ref sig .tc := ⟨.hbm, 203, rfl⟩
abbrev main_call3_v0 : Ref sig .tc := ⟨.hbm, 204, rfl⟩
abbrev main_call3_c : Ref sig .tc := ⟨.hbm, 205, rfl⟩
abbrev main_call3_v1 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_call3_cst : Ref sig .tc := ⟨.hbm, 210, rfl⟩
abbrev main_call3_v5 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_25 : Ref sig .tc := ⟨.hbm, 229, rfl⟩
abbrev main_v174 : Ref sig .tc := ⟨.hbm, 230, rfl⟩
abbrev main_v175 : Ref sig .tc := ⟨.hbm, 231, rfl⟩
abbrev main_cst_26 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_27 : Ref sig .tc := ⟨.hbm, 238, rfl⟩
abbrev main_v181 : Ref sig .tc := ⟨.hbm, 239, rfl⟩
abbrev main_v182 : Ref sig .tc := ⟨.hbm, 240, rfl⟩
abbrev main_cst_28 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_29 : Ref sig .tc := ⟨.hbm, 249, rfl⟩
abbrev main_v190 : Ref sig .tc := ⟨.hbm, 250, rfl⟩
abbrev main_v191 : Ref sig .tc := ⟨.hbm, 251, rfl⟩
abbrev main_cst_30 : Ref sig .tc := ⟨.hbm, 252, rfl⟩
abbrev main_v192 : Ref sig .tc := ⟨.hbm, 253, rfl⟩
abbrev main_v193 : Ref sig .tc := ⟨.hbm, 254, rfl⟩
abbrev main_cst_31 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩

abbrev nD : Nat := 1
abbrev τ : Topo := Topo.v7x

variable {F : FTy → Type} [FloatOps F]
-- ==== Kernel2.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 18
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S65536x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S32x2048x2816 : Shape := ⟨3, ![32, 2048, 2816]⟩
abbrev S65536x1024 : Shape := ⟨2, ![65536, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S32x2048x2816, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S_, .f32⟩
  | .hbm, ⟨33, _⟩ => ⟨S32x2048x2816, .f32⟩
  | .hbm, ⟨34, _⟩ => ⟨S32x2048x2816, .f32⟩
  | .hbm, ⟨35, _⟩ => ⟨S32x2048x2816, .f32⟩
  | .hbm, ⟨36, _⟩ => ⟨S32x2048x2816, .f32⟩
  | .hbm, ⟨37, _⟩ => ⟨S32x2048x2816, .f32⟩
  | .hbm, ⟨38, _⟩ => ⟨S32x2048x1024, .f32⟩
  | .hbm, ⟨39, _⟩ => ⟨S1024, .f32⟩
  | .hbm, ⟨40, _⟩ => ⟨S32x2048x1024, .f32⟩
  | .hbm, ⟨41, _⟩ => ⟨S_, .f32⟩
  | .hbm, ⟨42, _⟩ => ⟨S32x2048, .f32⟩
  | .hbm, ⟨43, _⟩ => ⟨S32x2048x1, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S32x2048x1, .f32⟩
  | .hbm, ⟨51, _⟩ => ⟨S32x2048x1024, .f32⟩
  | .hbm, ⟨52, _⟩ => ⟨S32x2048x1024, .f32⟩
  | .hbm, ⟨53, _⟩ => ⟨S1x1x1024, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise
public import Idealize.ShloMosaic.Lib.IdealHost

@[expose] public section

noncomputable section

namespace Cert.Spec

open Idealize.ShloMosaic

/-- The word `0.5` denotes one half. -/
theorem half_word : Ideal.ofBits .f32 0x3F000000#32 = (((1 : ℝ) / 2 : ℝ) : EReal) := by
  simp [Ideal.ofBits, Ideal.ieee, -EReal.coe_mul]; norm_num

/-- The word `1.0` denotes one. -/
theorem one_word : Ideal.ofBits .f32 0x3F800000#32 = 1 := Ideal.ofBits_one_f32

/-- The logistic function, as the reference writes it: `1 / (1 + exp (-z))`. -/
def logi (z : EReal) : EReal := Ideal.div 1 (1 + Ideal.exp (-z))

/-- The kernels' sigmoid `0.5 · tanh (0.5 · z) + 0.5` is the logistic function on every extended real. -/
theorem tanh_logi (z : EReal) :
    Ideal.ofBits .f32 0x3F000000#32 * Ideal.tanh (Ideal.ofBits .f32 0x3F000000#32 * z) + Ideal.ofBits .f32 0x3F000000#32 = logi z := by
  rw [half_word, logi]
  induction z using EReal.rec with
  | bot =>
    rw [EReal.coe_mul_bot_of_pos (by norm_num), Ideal.tanh_bot, EReal.neg_bot, Ideal.exp_top,
      EReal.add_top_of_ne_bot (by exact bot_lt_iff_ne_bot.mp (by exact_mod_cast EReal.bot_lt_coe 1)), Ideal.div, if_neg (by simp)]
    rw [EReal.inv_top, mul_zero, show (-1 : EReal) = ((-1 : ℝ) : EReal) by simp, ← EReal.coe_mul, ← EReal.coe_add]
    norm_num
  | top =>
    rw [EReal.coe_mul_top_of_pos (by norm_num), Ideal.tanh_top, EReal.neg_top, Ideal.exp_bot, add_zero, mul_one, Ideal.div, if_neg (by simp), inv_one, mul_one]
    norm_cast; norm_num
  | coe x =>
    have e : (1 : EReal) + Ideal.exp (-(x : EReal)) = ((1 + Real.exp (-x) : ℝ) : EReal) := by
      rw [← EReal.coe_neg, Ideal.exp_coe]; norm_cast
    have hp : 0 < 1 + Real.exp (-x) := by positivity
    rw [e, Ideal.div_coe hp.ne', one_mul, ← EReal.coe_mul, Ideal.tanh_coe, ← EReal.coe_mul, ← EReal.coe_add]
    congr 1
    rw [Real.tanh_eq_sinh_div_cosh, Real.sinh_eq, Real.cosh_eq]
    have h1 : Real.exp (-x) = Real.exp (-(1 / 2 * x)) * Real.exp (-(1 / 2 * x)) := by rw [← Real.exp_add]; congr 1; ring
    have h2 : Real.exp (1 / 2 * x) * Real.exp (-(1 / 2 * x)) = 1 := by rw [← Real.exp_add]; simp
    have ha := Real.exp_pos (1 / 2 * x)
    have hb := Real.exp_pos (-(1 / 2 * x))
    rw [h1]
    generalize Real.exp (1 / 2 * x) = a at *
    generalize Real.exp (-(1 / 2 * x)) = b at *
    have : b = a⁻¹ := by field_simp; linarith
    subst this
    field_simp
    ring

/-- RMS normalisation of one row of 1024 entries with a gain. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The hidden row of the feed-forward layer: `gate · σ(gate) · up`. -/
def hid (y : Fin 1024 → EReal) (wg wu : Fin 1024 → Fin 2816 → EReal) (f : Fin 2816) : EReal :=
  (∑ k, y k * wg k f) * logi (∑ k, y k * wg k f) * ∑ k, y k * wu k f

/-- The feed-forward layer on one row: normalise, gate and up products, down product, normalise, add the row. -/
def ffn (x g : Fin 1024 → EReal) (wg wu : Fin 1024 → Fin 2816 → EReal) (wd : Fin 2816 → Fin 1024 → EReal)
    (g' : Fin 1024 → EReal) (d : Fin 1024) : EReal :=
  x d + rms (fun e => ∑ f, hid (rms x g) wg wu f * wd f e) g' d

end Cert.Spec
end
-- ==== Proof.MixSpec.lean ====
module

public import proofs.«01_k».proof.Proof.Spec

@[expose] public section

noncomputable section

namespace Cert.Spec

open Idealize.ShloMosaic

/-- The Gaussian error linear unit, with the error function. -/
def gelu (z : EReal) : EReal :=
  Ideal.ofBits .f32 0x3F000000#32 * z * (1 + Ideal.erf (z * Ideal.ofBits .f32 0x3F3504F3#32))

/-- Layer normalisation of one row of 512 entries, with a gain and a shift. -/
def lnorm (v g b : Fin 512 → EReal) (e : Fin 512) : EReal :=
  (v e - Ideal.div (∑ k, v k) (Ideal.ofBits .f32 0x44000000#32))
    * Ideal.rsqrt (Ideal.div (∑ k, (v k - Ideal.div (∑ l, v l) (Ideal.ofBits .f32 0x44000000#32))
        * (v k - Ideal.div (∑ l, v l) (Ideal.ofBits .f32 0x44000000#32))) (Ideal.ofBits .f32 0x44000000#32)
      + Ideal.ofBits .f32 0x3727C5AC#32) * g e + b e

/-- One row's combined input projection: the normalised row times the weight. -/
def proj (x g : Fin 1024 → EReal) (w : Fin 1024 → Fin 3840 → EReal) (e : Fin 3840) : EReal := ∑ k, rms x g k * w k e

/-- The mixer's merge of its two branches on one row, with the output projection and the residual sum. -/
def merge (x g : Fin 1024 → EReal) (w : Fin 1024 → Fin 3840 → EReal) (att gm : Fin 512 → EReal)
    (wa wb : Fin 512 → Fin 1024 → EReal) (wo : Fin 1024 → Fin 1024 → EReal) (g' : Fin 1024 → EReal) (d : Fin 1024) : EReal :=
  x d + rms (fun e => ∑ k : Fin 1024, (logi (proj x g w ⟨1792 + k.val, by omega⟩) * (∑ f, att f * wa f k)
    + logi (proj x g w ⟨2816 + k.val, by omega⟩) * (∑ f, gm f * wb f k)) * wo k e) g' d

/-- The distance from key `J` to query `a` of a block, as a word: keys start one block before the queries. -/
def rel (a : Fin 128) (J : Fin 256) : BitVec 32 := IntOp.subi (IntOp.addi 128#32 (BitVec.ofNat 32 a.val)) (BitVec.ofNat 32 J.val)

/-- Whether query `a` of block `n` may look at key `J`: it lies in the window, and in the sequence. -/
def valid (n : Nat) (a : Fin 128) (J : Fin 256) : BitVec 1 :=
  IntOp.andi (IntOp.andi (IntOp.cmpi .sge (rel a J) 0#32) (IntOp.cmpi .slt (rel a J) 128#32))
    (IntOp.cmpi .sge (IntOp.addi (IntOp.muli (IntOp.subi (BitVec.ofNat 32 n) 1#32) 128#32) (BitVec.ofNat 32 J.val)) 0#32)

/-- The masked score of key `J` for query `a`, with a position bias of slope `sl`. -/
def score (sl : EReal) (n : Nat) (a : Fin 128) (q : Fin 64 → EReal) (k : Fin 256 → Fin 64 → EReal) (J : Fin 256) : EReal :=
  Scalar.select (valid n a J) ((∑ c, k J c * q c) * Ideal.ofBits .f32 0x3E000000#32 + sl * (((rel a J).toInt : ℝ) : EReal))
    (Ideal.ofBits .f32 0xF149F2CA#32)

/-- The largest score, the sink among them. -/
def top (l : Fin 256 → EReal) (s : EReal) : EReal := max (Finset.univ.fold max (Ideal.ofBits .f32 0xFF800000#32) l) s

/-- The softmax's denominator: the sink takes its share. -/
def denom (l : Fin 256 → EReal) (s : EReal) : EReal := (∑ J, Ideal.exp (l J - top l s)) + Ideal.exp (s - top l s)

/-- Attention with a sink: the values weighted by the softmax of the scores. -/
def att (l : Fin 256 → EReal) (s : EReal) (v : Fin 256 → EReal) : EReal :=
  ∑ J, v J * Ideal.div (Ideal.exp (l J - top l s)) (denom l s)

/-- The position slope of head `h`: minus two to the power of minus `h + 1`. -/
def slopeOf (h : Fin 8) : EReal := ((-(1 / 2 ^ (h.val + 1)) : ℝ) : EReal)

/-- Key and value columns of position `J` of the two blocks that end with block `n`; zero before the sequence. -/
def keys (P : Fin 2048 → Fin 3840 → EReal) (n : Fin 16) (J e : Fin 256) : EReal :=
  if h : 128 ≤ n.val * 128 + J.val then P ⟨n.val * 128 + J.val - 128, by omega⟩ ⟨512 + e.val, by omega⟩ else 0

/-- Row `a` of block `n` of a sequence. -/
def rowOf (n : Fin 16) (a : Fin 128) : Fin 2048 := ⟨n.val * 128 + a.val, by omega⟩

/-- The scores of query `a` of block `n` on head `h`. -/
def scores (P : Fin 2048 → Fin 3840 → EReal) (n : Fin 16) (a : Fin 128) (h : Fin 8) : Fin 256 → EReal :=
  score (slopeOf h) n.val a (fun c => P (rowOf n a) ⟨h.val * 64 + c.val, by omega⟩) (fun J c => keys P n J ⟨h.val / 4 * 64 + c.val, by omega⟩)

/-- Entry `f` of the attention's output at row `a` of block `n`. -/
def mixAtt (P : Fin 2048 → Fin 3840 → EReal) (s : Fin 8 → EReal) (n : Fin 16) (a : Fin 128) (f : Fin 512) : EReal :=
  att (scores P n a ⟨f.val / 64, by omega⟩) (s ⟨f.val / 64, by omega⟩)
    (fun J => keys P n J ⟨128 + f.val / 256 * 64 + f.val % 64, by omega⟩)

/-- Entry `f` of the layer normalisation of the spatial branch's second half, at row `p`. -/
def mixLn (P : Fin 2048 → Fin 3840 → EReal) (lg lb : Fin 512 → EReal) (p : Fin 2048) (f : Fin 512) : EReal :=
  lnorm (fun k => gelu (P p ⟨1280 + k.val, by omega⟩)) lg lb f

/-- Entry `f` of the spatial branch at row `a` of block `n`. -/
def mixGm (P : Fin 2048 → Fin 3840 → EReal) (lg lb : Fin 512 → EReal) (ws : Fin 4 → Fin 128 → Fin 128 → EReal) (bs : Fin 4 → Fin 128 → EReal)
    (n : Fin 16) (a : Fin 128) (f : Fin 512) : EReal :=
  gelu (P (rowOf n a) ⟨768 + f.val, by omega⟩)
    * ((∑ s : Fin 128, (if s.val ≤ a.val then ws ⟨f.val / 128, by omega⟩ a s else 0) * mixLn P lg lb (rowOf n s) f) + bs ⟨f.val / 128, by omega⟩ a)

/-- A key column inside the sequence. -/
theorem keys_pos (P : Fin 2048 → Fin 3840 → EReal) (n : Fin 16) (J e : Fin 256) (p : Fin 2048) (f : Fin 3840)
    (hp : p.val + 128 = n.val * 128 + J.val) (hf : f.val = 512 + e.val) : keys P n J e = P p f := by
  rw [keys, dif_pos (by omega)]
  rw [show (⟨n.val * 128 + J.val - 128, by omega⟩ : Fin 2048) = p from Fin.ext (by dsimp only; omega),
    show (⟨512 + e.val, by omega⟩ : Fin 3840) = f from Fin.ext hf.symm]

/-- A key column before the sequence is zero. -/
theorem keys_zero (P : Fin 2048 → Fin 3840 → EReal) (n : Fin 16) (J e : Fin 256) (h : n.val * 128 + J.val < 128) : keys P n J e = 0 := by
  rw [keys, dif_neg (by omega)]

/-- The mixer layer on one sequence, at entry `d` of row `a` of block `n`. -/
def mixer (x : Fin 2048 → Fin 1024 → EReal) (g : Fin 1024 → EReal) (w : Fin 1024 → Fin 3840 → EReal) (s : Fin 8 → EReal) (lg lb : Fin 512 → EReal)
    (ws : Fin 4 → Fin 128 → Fin 128 → EReal) (bs : Fin 4 → Fin 128 → EReal) (wa wb : Fin 512 → Fin 1024 → EReal) (wo : Fin 1024 → Fin 1024 → EReal)
    (g' : Fin 1024 → EReal) (n : Fin 16) (a : Fin 128) (d : Fin 1024) : EReal :=
  merge (x (rowOf n a)) g w (mixAtt (fun p => proj (x p) g w) s n a) (mixGm (fun p => proj (x p) g w) lg lb ws bs n a) wa wb wo g' d

end Cert.Spec
end
-- ==== Proof.MixRefDefs.lean ====
module

public import proofs.«01_k».proof.Proof.Gen.ReferenceIdeal.Run
public import proofs.«01_k».proof.Proof.MixSpec

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

/-- RMS normalisation over the last axis, as the reference writes it. -/
def rmsRef (x : FVec Ideal S32x2048x1024 .f32) (g : FVec Ideal S1x1024 .f32) : FVec Ideal S32x2048x1024 .f32 :=
  mulf (mulf x (broadcastInDim S32x2048x1024 ![0, 1, 2] bcast_S32x2048x1_S32x2048x1024_0_1_2 (Host.rsqrt (addf (Host.divf
      (broadcastInDim S32x2048x1 ![0, 1] bcast_S32x2048_S32x2048x1_0_1 (Host.reduceAdd (mulf x x) (constant S_ .f32 0x00000000#32)
        reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 (shapeCast _ g shapeCasts_S1x1024_S1024)))

/-- The combined input projection. -/
def projRef (x : FVec Ideal S32x2048x1024 .f32) (g : FVec Ideal S1x1024 .f32) (w : FVec Ideal S1x1024x3840 .f32) :
    FVec Ideal S32x2048x3840 .f32 :=
  Host.dotGeneral dot_S32x2048x1024_S1024x3840_S32x2048x3840_2_0_01_1_n_n none (rmsRef x g) (shapeCast _ w shapeCasts_S1x1024x3840_S1024x3840)

/-- The keys of every block with those of the block before it, zeros before the first. -/
def keysRef (P : FVec Ideal S32x2048x3840 .f32) : FVec Ideal S32x17x128x2x64 .f32 :=
  shapeCast _ (pad S32x2176x2x64 ![0, 128, 0, 0] ![0, 0, 0, 0] ![0, 0, 0, 0] (shapeCast _ (extractStridedSlice S32x2048x128 ![0, 0, 512] P
    slices_S32x2048x3840_S32x2048x128_0_0_512) shapeCasts_S32x2048x128_S32x2048x2x64) (sitofp .f32 (constantI S_ 32 0#32))
    pads_S32x2048x2x64_S32x2176x2x64_000_12800_000_000 h_S_) shapeCasts_S32x2176x2x64_S32x17x128x2x64

/-- The values of every block, zeros before the first. -/
def valsRef (P : FVec Ideal S32x2048x3840 .f32) : FVec Ideal S32x17x128x2x64 .f32 :=
  shapeCast _ (pad S32x2176x2x64 ![0, 128, 0, 0] ![0, 0, 0, 0] ![0, 0, 0, 0] (shapeCast _ (extractStridedSlice S32x2048x128 ![0, 0, 640] P
    slices_S32x2048x3840_S32x2048x128_0_0_640) shapeCasts_S32x2048x128_S32x2048x2x64) (sitofp .f32 (constantI S_ 32 0#32))
    pads_S32x2048x2x64_S32x2176x2x64_000_12800_000_000 h_S_) shapeCasts_S32x2176x2x64_S32x17x128x2x64

/-- Two blocks' keys or values side by side. -/
def pairRef (k : FVec Ideal S32x17x128x2x64 .f32) : FVec Ideal S32x16x256x2x64 .f32 :=
  concatenate S32x16x256x2x64 2 [⟨S32x16x128x2x64, (extractStridedSlice S32x16x128x2x64 ![0, 0, 0, 0, 0] k slices_S32x17x128x2x64_S32x16x128x2x64_0_0_0_0_0)⟩,
    ⟨S32x16x128x2x64, (extractStridedSlice S32x16x128x2x64 ![0, 1, 0, 0, 0] k slices_S32x17x128x2x64_S32x16x128x2x64_0_1_0_0_0)⟩]
    concatenates_S32x16x128x2x64_S32x16x128x2x64_S32x16x256x2x64_d2

/-- Key positions. -/
def iotaRef : IVec S1x256 32 := broadcastInDim S1x256 ![1] bcast_S256_S1x256_1 (iotaInDim S256 32 0)

/-- Distances from key to query. -/
def relRef : IVec S128x256 32 :=
  subi (broadcastInDim S128x256 ![0, 1] bcast_S128x1_S128x256_0_1 (addi (broadcastInDim S128x1 ![] bcast_S_S128x1 (constantI S_ 32 128#32))
    (broadcastInDim S128x1 ![0] bcast_S128_S128x1_0 (iotaInDim S128 32 0)))) (broadcastInDim S128x256 ![0, 1] bcast_S1x256_S128x256_0_1 iotaRef)

/-- Which keys each query may look at. -/
def validRef : IVec S16x128x256 1 :=
  andi (broadcastInDim S16x128x256 ![0, 1, 2] bcast_S1x128x256_S16x128x256_0_1_2 (andi
      (cmpi .sge (broadcastInDim S1x128x256 ![1, 2] bcast_S128x256_S1x128x256_1_2 relRef) (broadcastInDim S1x128x256 ![] bcast_S_S1x128x256 (constantI S_ 32 0#32)))
      (cmpi .slt (broadcastInDim S1x128x256 ![1, 2] bcast_S128x256_S1x128x256_1_2 relRef) (broadcastInDim S1x128x256 ![] bcast_S_S1x128x256 (constantI S_ 32 128#32)))))
    (broadcastInDim S16x128x256 ![0, 1, 2] bcast_S16x1x256_S16x128x256_0_1_2 (cmpi .sge (addi (broadcastInDim S16x1x256 ![0, 1, 2] bcast_S16x1x1_S16x1x256_0_1_2
      (muli (subi (broadcastInDim S16x1x1 ![0] bcast_S16_S16x1x1_0 (iotaInDim S16 32 0)) (broadcastInDim S16x1x1 ![] bcast_S_S16x1x1 (constantI S_ 32 1#32)))
        (broadcastInDim S16x1x1 ![] bcast_S_S16x1x1 (constantI S_ 32 128#32))))
      (broadcastInDim S16x1x256 ![0, 1, 2] bcast_S1x1x256_S16x1x256_0_1_2 (broadcastInDim S1x1x256 ![1, 2] bcast_S1x256_S1x1x256_1_2 iotaRef)))
      (broadcastInDim S16x1x256 ![] bcast_S_S16x1x256 (constantI S_ 32 0#32))))

/-- The heads' position slopes. -/
def slopeRef : FVec Ideal S8 .f32 :=
  Host.powf (broadcastInDim S8 ![] bcast_S_S8 (constant S_ .f32 0x40000000#32)) (Host.divf (mulf (broadcastInDim S8 ![] bcast_S_S8 (constant S_ .f32 0xC1000000#32))
    (addf (broadcastInDim S8 ![] bcast_S_S8 (constant S_ .f32 0x3F800000#32)) (sitofp .f32 (iotaInDim S8 32 0))))
    (broadcastInDim S8 ![] bcast_S_S8 (constant S_ .f32 0x41000000#32)))

/-- The position bias. -/
def biasRef : FVec Ideal S2x4x1x128x256 .f32 :=
  mulf (broadcastInDim S2x4x1x128x256 ![0, 1, 2, 3, 4] bcast_S2x4x1x1x1_S2x4x1x128x256_0_1_2_3_4 (Host.negf
      (broadcastInDim S2x4x1x1x1 ![0, 1] bcast_S2x4_S2x4x1x1x1_0_1 (shapeCast _ slopeRef shapeCasts_S8_S2x4))))
    (broadcastInDim S2x4x1x128x256 ![0, 1, 2, 3, 4] bcast_S1x1x1x128x256_S2x4x1x128x256_0_1_2_3_4
      (broadcastInDim S1x1x1x128x256 ![3, 4] bcast_S128x256_S1x1x1x128x256_3_4 (sitofp .f32 relRef)))

/-- The unmasked scores. -/
def rawRef (P : FVec Ideal S32x2048x3840 .f32) : FVec Ideal S32x2x4x16x128x256 .f32 :=
  transpose S32x2x4x16x128x256 [0, 1, 5, 2, 4, 3] (Host.dotGeneral dot_S32x16x256x2x64_S32x16x128x2x4x64_S32x2x16x256x128x4_4_5_2_24_031_031 none
    (pairRef (keysRef P))
    (shapeCast _ (shapeCast _ (extractStridedSlice S32x2048x512 ![0, 0, 0] P slices_S32x2048x3840_S32x2048x512_0_0_0)
      shapeCasts_S32x2048x512_S32x2048x8x64) shapeCasts_S32x2048x8x64_S32x16x128x2x4x64))
    transposes_S32x2x16x256x128x4_S32x2x4x16x128x256_0_1_5_2_4_3

/-- The masked scores. -/
def logitRef (P : FVec Ideal S32x2048x3840 .f32) : FVec Ideal S32x2x4x16x128x256 .f32 :=
  select (broadcastInDim S32x2x4x16x128x256 ![3, 4, 5] bcast_S16x128x256_S32x2x4x16x128x256_3_4_5 validRef)
    (addf (mulf (rawRef P) (broadcastInDim S32x2x4x16x128x256 ![] bcast_S_S32x2x4x16x128x256 (constant S_ .f32 0x3E000000#32)))
      (broadcastInDim S32x2x4x16x128x256 ![0, 1, 2, 3, 4, 5] bcast_S1x2x4x1x128x256_S32x2x4x16x128x256_0_1_2_3_4_5
        (broadcastInDim S1x2x4x1x128x256 ![1, 2, 3, 4, 5] bcast_S2x4x1x128x256_S1x2x4x1x128x256_1_2_3_4_5 biasRef)))
    (broadcastInDim S32x2x4x16x128x256 ![] bcast_S_S32x2x4x16x128x256 (id (constant S_ .f32 0xF149F2CA#32)))

/-- The sinks, one for every query. -/
def sinkRef (s : FVec Ideal S1x8 .f32) : FVec Ideal S32x2x4x16x128 .f32 :=
  broadcastInDim S32x2x4x16x128 ![0, 1, 2, 3, 4] bcast_S1x2x4x1x1_S32x2x4x16x128_0_1_2_3_4 (broadcastInDim S1x2x4x1x1 ![1, 2, 3, 4] bcast_S2x4x1x1_S1x2x4x1x1_1_2_3_4
    (broadcastInDim S2x4x1x1 ![0, 1] bcast_S2x4_S2x4x1x1_0_1 (shapeCast _ (shapeCast _ s shapeCasts_S1x8_S8) shapeCasts_S8_S2x4)))

/-- The scores' maximum over the keys. -/
def topRef (l : FVec Ideal S32x2x4x16x128x256 .f32) : FVec Ideal S32x2x4x16x128 .f32 :=
  Host.reduce FloatOps.maximumf l (constant S_ .f32 0xFF800000#32) reducesTo_S32x2x4x16x128x256_S32x2x4x16x128_d5 h_S_

/-- The scores' maximum, the sink among them. -/
def maxRef (l : FVec Ideal S32x2x4x16x128x256 .f32) (s : FVec Ideal S1x8 .f32) : FVec Ideal S32x2x4x16x128 .f32 :=
  maximumf (topRef l) (sinkRef s)

/-- The exponentials. -/
def expRef (l : FVec Ideal S32x2x4x16x128x256 .f32) (s : FVec Ideal S1x8 .f32) : FVec Ideal S32x2x4x16x128x256 .f32 :=
  Host.exp (subf l (broadcastInDim S32x2x4x16x128x256 ![0, 1, 2, 3, 4, 5] bcast_S32x2x4x16x128x1_S32x2x4x16x128x256_0_1_2_3_4_5
    (broadcastInDim S32x2x4x16x128x1 ![0, 1, 2, 3, 4] bcast_S32x2x4x16x128_S32x2x4x16x128x1_0_1_2_3_4 (maxRef l s))))

/-- The softmax. -/
def probRef (l : FVec Ideal S32x2x4x16x128x256 .f32) (s : FVec Ideal S1x8 .f32) : FVec Ideal S32x2x4x16x128x256 .f32 :=
  Host.divf (expRef l s) (broadcastInDim S32x2x4x16x128x256 ![0, 1, 2, 3, 4, 5] bcast_S32x2x4x16x128x1_S32x2x4x16x128x256_0_1_2_3_4_5
    (broadcastInDim S32x2x4x16x128x1 ![0, 1, 2, 3, 4] bcast_S32x2x4x16x128_S32x2x4x16x128x1_0_1_2_3_4
      (addf (Host.reduceAdd (expRef l s) (constant S_ .f32 0x00000000#32) reducesTo_S32x2x4x16x128x256_S32x2x4x16x128_d5 h_S_)
        (Host.exp (subf (sinkRef s) (maxRef l s))))))

/-- The attention's output. -/
def attRef (P : FVec Ideal S32x2048x3840 .f32) (s : FVec Ideal S1x8 .f32) : FVec Ideal S32x2048x512 .f32 :=
  shapeCast _ (transpose S32x16x128x2x4x64 [0, 1, 5, 2, 4, 3] (Host.dotGeneral dot_S32x16x256x2x64_S32x2x4x16x128x256_S32x16x2x64x4x128_2_5_4_24_013_031 none
    (pairRef (valsRef P)) (probRef (logitRef P) s)) transposes_S32x16x2x64x4x128_S32x16x128x2x4x64_0_1_5_2_4_3) shapeCasts_S32x16x128x2x4x64_S32x2048x512

/-- The error linear unit on the spatial branch's columns. -/
def geluRef (P : FVec Ideal S32x2048x3840 .f32) : FVec Ideal S32x2048x1024 .f32 :=
  let z := extractStridedSlice S32x2048x1024 ![0, 0, 768] P slices_S32x2048x3840_S32x2048x1024_0_0_768
  mulf (mulf (broadcastInDim S32x2048x1024 ![] bcast_S_S32x2048x1024 (constant S_ .f32 0x3F000000#32)) z)
    (Host.erfc (mulf (Host.negf z) (broadcastInDim S32x2048x1024 ![] bcast_S_S32x2048x1024 (constant S_ .f32 0x3F3504F3#32))))

/-- Row means. -/
def meanRef (v : FVec Ideal S32x2048x512 .f32) : FVec Ideal S32x2048x1 .f32 :=
  Host.divf (broadcastInDim S32x2048x1 ![0, 1] bcast_S32x2048_S32x2048x1_0_1 (Host.reduceAdd v (constant S_ .f32 0x00000000#32) reducesTo_S32x2048x512_S32x2048_d2 h_S_))
    (broadcastInDim S32x2048x1 ![] bcast_S_S32x2048x1 (constant S_ .f32 0x44000000#32))

/-- Rows less their means. -/
def devRef (v : FVec Ideal S32x2048x512 .f32) : FVec Ideal S32x2048x512 .f32 :=
  subf v (broadcastInDim S32x2048x512 ![0, 1, 2] bcast_S32x2048x1_S32x2048x512_0_1_2 (meanRef v))

/-- Layer normalisation. -/
def lnRef (v : FVec Ideal S32x2048x512 .f32) (g b : FVec Ideal S1x512 .f32) : FVec Ideal S32x2048x512 .f32 :=
  addf (mulf (mulf (devRef v) (broadcastInDim S32x2048x512 ![0, 1, 2] bcast_S32x2048x1_S32x2048x512_0_1_2 (Host.rsqrt (addf (meanRef (mulf (devRef v) (devRef v)))
      (broadcastInDim S32x2048x1 ![] bcast_S_S32x2048x1 (constant S_ .f32 0x3727C5AC#32))))))
    (broadcastInDim S32x2048x512 ![0, 1, 2] bcast_S1x1x512_S32x2048x512_0_1_2 (broadcastInDim S1x1x512 ![2] bcast_S512_S1x1x512_2 (shapeCast _ g shapeCasts_S1x512_S512))))
    (broadcastInDim S32x2048x512 ![0, 1, 2] bcast_S1x1x512_S32x2048x512_0_1_2 (broadcastInDim S1x1x512 ![2] bcast_S512_S1x1x512_2 (shapeCast _ b shapeCasts_S1x512_S512)))

/-- The causal spatial weights. -/
def trilRef (w : FVec Ideal S1x4x128x128 .f32) : FVec Ideal S4x128x128 .f32 :=
  mulf (shapeCast _ w shapeCasts_S1x4x128x128_S4x128x128) (broadcastInDim S4x128x128 ![0, 1, 2] bcast_S1x128x128_S4x128x128_0_1_2
    (broadcastInDim S1x128x128 ![1, 2] bcast_S128x128_S1x128x128_1_2 (select (cmpi .sge (addi (iotaInDim S128x128 32 0)
      (broadcastInDim S128x128 ![] bcast_S_S128x128 (constantI S_ 32 0#32))) (iotaInDim S128x128 32 1))
      (broadcastInDim S128x128 ![] bcast_S_S128x128 (constant S_ .f32 0x3F800000#32)) (broadcastInDim S128x128 ![] bcast_S_S128x128 (constant S_ .f32 0x00000000#32)))))

/-- The spatial gate. -/
def spatRef (l : FVec Ideal S32x2048x512 .f32) (w : FVec Ideal S1x4x128x128 .f32) (b : FVec Ideal S1x4x128 .f32) : FVec Ideal S32x2048x512 .f32 :=
  shapeCast _ (addf (transpose S32x16x128x4x128 [1, 2, 4, 0, 3] (Host.dotGeneral dot_S32x16x128x4x128_S4x128x128_S4x32x16x128x128_2_2_014_1_3_0 none
      (shapeCast _ l shapeCasts_S32x2048x512_S32x16x128x4x128) (trilRef w)) transposes_S4x32x16x128x128_S32x16x128x4x128_1_2_4_0_3)
    (broadcastInDim S32x16x128x4x128 ![0, 1, 2, 3, 4] bcast_S1x1x128x4x1_S32x16x128x4x128_0_1_2_3_4 (broadcastInDim S1x1x128x4x1 ![2, 3, 4] bcast_S128x4x1_S1x1x128x4x1_2_3_4
      (broadcastInDim S128x4x1 ![0, 1] bcast_S128x4_S128x4x1_0_1 (transpose S128x4 [1, 0] (shapeCast _ b shapeCasts_S1x4x128_S4x128) transposes_S4x128_S128x4_1_0)))))
    shapeCasts_S32x16x128x4x128_S32x2048x512

/-- The spatial branch before its weight. -/
def gmRef (P : FVec Ideal S32x2048x3840 .f32) (g b : FVec Ideal S1x512 .f32) (w : FVec Ideal S1x4x128x128 .f32) (bs : FVec Ideal S1x4x128 .f32) :
    FVec Ideal S32x2048x512 .f32 :=
  mulf (extractStridedSlice S32x2048x512 ![0, 0, 0] (geluRef P) slices_S32x2048x1024_S32x2048x512_0_0_0)
    (spatRef (lnRef (extractStridedSlice S32x2048x512 ![0, 0, 512] (geluRef P) slices_S32x2048x1024_S32x2048x512_0_0_512) g b) w bs)

/-- The sigmoid of a gate. -/
def sigRef (z : FVec Ideal S32x2048x1024 .f32) : FVec Ideal S32x2048x1024 .f32 :=
  Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf z)))

/-- A branch times its weight. -/
def branchRef (a : FVec Ideal S32x2048x512 .f32) (w : FVec Ideal S1x512x1024 .f32) : FVec Ideal S32x2048x1024 .f32 :=
  Host.dotGeneral dot_S32x2048x512_S512x1024_S32x2048x1024_2_0_01_1_n_n none a (shapeCast _ w shapeCasts_S1x512x1024_S512x1024)

/-- The merged branches times the output weight. -/
def mergeRef (P : FVec Ideal S32x2048x3840 .f32) (a g : FVec Ideal S32x2048x512 .f32) (wa wb : FVec Ideal S1x512x1024 .f32)
    (wo : FVec Ideal S1x1024x1024 .f32) : FVec Ideal S32x2048x1024 .f32 :=
  Host.dotGeneral dot_S32x2048x1024_S1024x1024_S32x2048x1024_2_0_01_1_n_n none
    (addf (mulf (sigRef (extractStridedSlice S32x2048x1024 ![0, 0, 1792] P slices_S32x2048x3840_S32x2048x1024_0_0_1792)) (branchRef a wa))
      (mulf (sigRef (extractStridedSlice S32x2048x1024 ![0, 0, 2816] P slices_S32x2048x3840_S32x2048x1024_0_0_2816)) (branchRef g wb)))
    (shapeCast _ wo shapeCasts_S1x1024x1024_S1024x1024)

/-- The reference's result: the mixer layer. -/
def resRef (x : FVec Ideal S32x2048x1024 .f32) (g : FVec Ideal S1x1024 .f32) (w : FVec Ideal S1x1024x3840 .f32) (s : FVec Ideal S1x8 .f32)
    (lg lb : FVec Ideal S1x512 .f32) (ws : FVec Ideal S1x4x128x128 .f32) (bs : FVec Ideal S1x4x128 .f32) (wa wb : FVec Ideal S1x512x1024 .f32)
    (wo : FVec Ideal S1x1024x1024 .f32) (g' : FVec Ideal S1x1024 .f32) : FVec Ideal S32x2048x1024 .f32 :=
  addf x (rmsRef (mergeRef (projRef x g w) (attRef (projRef x g w) s) (gmRef (projRef x g w) lg lb ws bs) wa wb wo) g')

/-- One entry of the reference's normalised row. -/
theorem rmsRef_at (x : FVec Ideal S32x2048x1024 .f32) (g : FVec Ideal S1x1024 .f32) (b : Fin 32) (s : Fin 2048) (d : Fin 1024) :
    rmsRef x g (ix3 b s d) = rms (fun k => x (ix3 b s k)) (fun k => g (ix2 0 k)) d := by
  pointwise [rmsRef]
  rfl

/-- One entry of the reference's projection. -/
theorem projRef_at (x : FVec Ideal S32x2048x1024 .f32) (g : FVec Ideal S1x1024 .f32) (w : FVec Ideal S1x1024x3840 .f32) (b : Fin 32) (s : Fin 2048) (e : Fin 3840) :
    projRef x g w (ix3 b s e) = proj (fun k => x (ix3 b s k)) (fun k => g (ix2 0 k)) (fun k e => w (ix3 0 k e)) e := by
  pointwise [projRef]
  simp only [rmsRef_at]
  rfl

end Cert.ReferenceIdeal.Value
end
-- ==== Proof.MixRefAtt.lean ====
module

public import proofs.«01_k».proof.Proof.MixRefDefs

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

/-- The padding's value is zero. -/
theorem zero_word : (FloatOps.sitofp .f32 0#32 : Ideal .f32) = 0 := by
  show ((((0#32 : BitVec 32).toInt : ℝ)) : EReal) = 0
  simp

/-- The reference's keys of a block and the block before. -/
theorem pairKeys_at (P : FVec Ideal S32x2048x3840 .f32) (b : Fin 32) (n : Fin 16) (J : Fin 256) (h : Fin 2) (c : Fin 64) :
    pairRef (keysRef P) (ix5 b n J h c) = keys (fun p e => P (ix3 b p e)) n J ⟨h.val * 64 + c.val, by omega⟩ := by
  pointwise [pairRef, keysRef]
  simp only [zero_word]
  by_cases h1 : J.val < 128
  · rw [dif_pos h1]
    by_cases h2 : 128 ≤ n.val * 128 + J.val
    · rw [dif_pos ⟨h2, by omega⟩]
      symm
      apply keys_pos
      · dsimp only; omega
      · rfl
    · rw [dif_neg (fun h => h2 h.1), keys_zero _ _ _ _ (by omega)]
  · rw [dif_neg h1, dif_pos (by omega)]
    symm
    apply keys_pos
    · dsimp only; omega
    · rfl

/-- The reference's values of a block and the block before. -/
theorem pairVals_at (P : FVec Ideal S32x2048x3840 .f32) (b : Fin 32) (n : Fin 16) (J : Fin 256) (h : Fin 2) (c : Fin 64) :
    pairRef (valsRef P) (ix5 b n J h c) = keys (fun p e => P (ix3 b p e)) n J ⟨128 + h.val * 64 + c.val, by omega⟩ := by
  pointwise [pairRef, valsRef]
  simp only [zero_word]
  by_cases h1 : J.val < 128
  · rw [dif_pos h1]
    by_cases h2 : 128 ≤ n.val * 128 + J.val
    · rw [dif_pos ⟨h2, by omega⟩]
      symm
      apply keys_pos
      · dsimp only; omega
      · dsimp only; omega
    · rw [dif_neg (fun h => h2 h.1), keys_zero _ _ _ _ (by omega)]
  · rw [dif_neg h1, dif_pos (by omega)]
    symm
    apply keys_pos
    · dsimp only; omega
    · dsimp only; omega

/-- The reference's distance of a key from a query. -/
theorem relRef_at (a : Fin 128) (J : Fin 256) : relRef (ix2 a J) = rel a J := by
  pointwise [relRef, iotaRef]
  rfl

/-- The reference's mask. -/
theorem validRef_at (n : Fin 16) (a : Fin 128) (J : Fin 256) : validRef (ix3 n a J) = valid n.val a J := by
  pointwise [validRef, iotaRef, relRef_at]
  rfl

/-- The word of two. -/
theorem two_word : Ideal.ofBits .f32 0x40000000#32 = ((2 : ℝ) : EReal) := by
  simp [Ideal.ofBits, Ideal.ieee, -EReal.coe_mul]; norm_num

/-- The word of eight. -/
theorem eight_word : Ideal.ofBits .f32 0x41000000#32 = ((8 : ℝ) : EReal) := by
  simp [Ideal.ofBits, Ideal.ieee, -EReal.coe_mul]; norm_num

/-- The word of minus eight. -/
theorem neg_eight_word : Ideal.ofBits .f32 0xC1000000#32 = ((-8 : ℝ) : EReal) := by
  simp [Ideal.ofBits, Ideal.ieee, -EReal.coe_mul]; norm_num

/-- The reference's slope of a head. -/
theorem slopeRef_at (h : Fin 8) : -slopeRef (ix1 h) = slopeOf h := by
  pointwise [slopeRef]
  rw [two_word, eight_word, neg_eight_word]
  have e : (FloatOps.sitofp .f32 (BitVec.ofNat 32 h.val) : Ideal .f32) = ((h.val : ℝ) : EReal) := by
    show (((((BitVec.ofNat 32 h.val).toInt : ℤ) : ℝ)) : EReal) = _
    congr 1
    fin_cases h <;> rfl
  rw [e, ← EReal.coe_one, ← EReal.coe_add, ← EReal.coe_mul, Ideal.div_coe (by norm_num), ← EReal.coe_mul]
  show -(((Real.rpow 2 _ : ℝ)) : EReal) = _
  rw [← EReal.coe_neg, slopeOf]
  congr 2
  change ((2 : ℝ) ^ (-8 * (1 + (h.val : ℝ)) * (1 / 8)) : ℝ) = 1 / 2 ^ (h.val + 1)
  rw [show (-8 * (1 + (h.val : ℝ)) * (1 / 8)) = -((h.val + 1 : ℕ) : ℝ) by push_cast; ring, Real.rpow_neg (by norm_num), Real.rpow_natCast, one_div]

/-- The reference's position bias. -/
theorem biasRef_at (h : Fin 2) (g : Fin 4) (a : Fin 128) (J : Fin 256) :
    biasRef (ix5 h g 0 a J) = slopeOf ⟨h.val * 4 + g.val, by omega⟩ * (((rel a J).toInt : ℝ) : EReal) := by
  pointwise [biasRef, relRef_at]
  rw [slopeRef_at]
  rfl

/-- The reference's score before the mask. -/
theorem rawRef_at (P : FVec Ideal S32x2048x3840 .f32) (b : Fin 32) (h : Fin 2) (g : Fin 4) (n : Fin 16) (a : Fin 128) (J : Fin 256) :
    rawRef P (ix6 b h g n a J) = ∑ c : Fin 64, pairRef (keysRef P) (ix5 b n J h c)
      * P (ix3 b (rowOf n a) ⟨(h.val * 4 + g.val) * 64 + c.val, by omega⟩) := by
  pointwise [rawRef]
  refine Finset.sum_congr rfl fun c _ => ?_
  congr 3
  apply Fin.ext
  dsimp only
  omega

/-- The reference's masked score. -/
theorem logitRef_at (P : FVec Ideal S32x2048x3840 .f32) (b : Fin 32) (h : Fin 2) (g : Fin 4) (n : Fin 16) (a : Fin 128) (J : Fin 256) :
    logitRef P (ix6 b h g n a J) = scores (fun p e => P (ix3 b p e)) n a ⟨h.val * 4 + g.val, by omega⟩ J := by
  pointwise [logitRef]
  simp only [rawRef_at, pairKeys_at, validRef_at, biasRef_at]
  simp only [scores, score, show (h.val * 4 + g.val) / 4 = h.val by omega]
  rfl

/-- The entries of a rank-six array that drop to one entry when the last axis goes. -/
theorem drop_last (h : S32x2x4x16x128x256.ReducesTo [5] S32x2x4x16x128) (b : Fin 32) (k : Fin 2) (g : Fin 4) (n : Fin 16) (a : Fin 128) :
    (Finset.univ.filter fun i => h.drop i = ix5 b k g n a)
      = (Finset.univ : Finset (Fin 256)).map ⟨fun J => ix6 b k g n a J, fun x y e => Fin.ext (congrArg (fun i : S32x2x4x16x128x256.Idx => (i 5).val) e)⟩ := by
  ext i
  simp only [Finset.mem_filter, Finset.mem_univ, true_and, Finset.mem_map, Function.Embedding.coeFn_mk]
  constructor
  · intro e
    refine ⟨i 5, ?_⟩
    have e0 := congrArg Fin.val (congrFun e 0)
    have e1 := congrArg Fin.val (congrFun e 1)
    have e2 := congrArg Fin.val (congrFun e 2)
    have e3 := congrArg Fin.val (congrFun e 3)
    have e4 := congrArg Fin.val (congrFun e 4)
    funext d
    apply Fin.ext
    fin_cases d
    · exact e0.symm
    · exact e1.symm
    · exact e2.symm
    · exact e3.symm
    · exact e4.symm
    · rfl
  · rintro ⟨J, rfl⟩
    funext d
    fin_cases d <;> rfl

/-- A sum over the last axis of a rank-six array. -/
theorem sum_last (l : FVec Ideal S32x2x4x16x128x256 .f32) (h : S32x2x4x16x128x256.ReducesTo [5] S32x2x4x16x128) (z : EReal) (b : Fin 32) (k : Fin 2) (g : Fin 4)
    (n : Fin 16) (a : Fin 128) : Ideal.hostReduceAdd h l z (ix5 b k g n a) = z + ∑ J : Fin 256, l (ix6 b k g n a J) := by
  unfold Ideal.hostReduceAdd
  rw [drop_last, Finset.sum_map]
  rfl

/-- The sink of a head, repeated for every query. -/
theorem sinkRef_at (s : FVec Ideal S1x8 .f32) (b : Fin 32) (h : Fin 2) (g : Fin 4) (n : Fin 16) (a : Fin 128) :
    sinkRef s (ix5 b h g n a) = s (ix2 0 ⟨h.val * 4 + g.val, by omega⟩) := by
  pointwise [sinkRef]

/-- A maximum over the last axis of a rank-six array. -/
theorem fold_last (l : S32x2x4x16x128x256.Idx → EReal) (h : S32x2x4x16x128x256.ReducesTo [5] S32x2x4x16x128) (z : S_.Idx → EReal) (hu : 0 < S_.numel)
    (b : Fin 32) (k : Fin 2) (g : Fin 4) (n : Fin 16) (a : Fin 128) :
    Host.reduce (max : EReal → EReal → EReal) l z h hu (ix5 b k g n a)
      = Finset.univ.fold max (z (Shape.Idx.first hu)) fun J : Fin 256 => l (ix6 b k g n a J) := by
  rw [Host.reduce_eq_fold, drop_last, Finset.fold_map]
  rfl

/-- The larger of two extended reals, as an operation on floats. -/
theorem maximum_eq : (FloatOps.maximumf : Ideal .f32 → Ideal .f32 → Ideal .f32) = (max : EReal → EReal → EReal) := rfl

/-- The reference's largest score. -/
theorem topRef_at (l : FVec Ideal S32x2x4x16x128x256 .f32) (b : Fin 32) (h : Fin 2) (g : Fin 4) (n : Fin 16) (a : Fin 128) :
    topRef l (ix5 b h g n a) = Finset.univ.fold max (Ideal.ofBits .f32 0xFF800000#32) fun J : Fin 256 => l (ix6 b h g n a J) := by
  unfold topRef
  rw [maximum_eq]
  exact fold_last l _ (fun _ => Ideal.ofBits .f32 0xFF800000#32) _ b h g n a

/-- The larger of two arrays, entry by entry. -/
theorem maximum_at (x y : FVec Ideal S32x2x4x16x128 .f32) (i : S32x2x4x16x128.Idx) : maximumf x y i = max (x i) (y i) := rfl

/-- The reference's largest score, the sink among them. -/
theorem maxRef_at (l : FVec Ideal S32x2x4x16x128x256 .f32) (s : FVec Ideal S1x8 .f32) (b : Fin 32) (h : Fin 2) (g : Fin 4) (n : Fin 16) (a : Fin 128) :
    maxRef l s (ix5 b h g n a) = top (fun J => l (ix6 b h g n a J)) (s (ix2 0 ⟨h.val * 4 + g.val, by omega⟩)) := by
  rw [maxRef, maximum_at, sinkRef_at, topRef_at, top]

/-- The reference's exponential of a score below the largest. -/
theorem expRef_at (l : FVec Ideal S32x2x4x16x128x256 .f32) (s : FVec Ideal S1x8 .f32) (b : Fin 32) (h : Fin 2) (g : Fin 4) (n : Fin 16) (a : Fin 128) (J : Fin 256) :
    expRef l s (ix6 b h g n a J) = Ideal.exp (l (ix6 b h g n a J) - top (fun J => l (ix6 b h g n a J)) (s (ix2 0 ⟨h.val * 4 + g.val, by omega⟩))) := by
  pointwise [expRef]
  rw [maxRef_at]

/-- The reference's weight of a key. -/
theorem probRef_at (l : FVec Ideal S32x2x4x16x128x256 .f32) (s : FVec Ideal S1x8 .f32) (b : Fin 32) (h : Fin 2) (g : Fin 4) (n : Fin 16) (a : Fin 128) (J : Fin 256) :
    probRef l s (ix6 b h g n a J) = Ideal.div (Ideal.exp (l (ix6 b h g n a J) - top (fun J => l (ix6 b h g n a J)) (s (ix2 0 ⟨h.val * 4 + g.val, by omega⟩))))
      (denom (fun J => l (ix6 b h g n a J)) (s (ix2 0 ⟨h.val * 4 + g.val, by omega⟩))) := by
  pointwise [probRef]
  simp only [sinkRef_at, maxRef_at, sum_last, expRef_at, zero_add]
  rfl

/-- One entry of the reference's attention. -/
theorem attRef_at (P : FVec Ideal S32x2048x3840 .f32) (s : FVec Ideal S1x8 .f32) (b : Fin 32) (n : Fin 16) (a : Fin 128) (f : Fin 512) :
    attRef P s (ix3 b (rowOf n a) f) = mixAtt (fun p e => P (ix3 b p e)) (fun h => s (ix2 0 h)) n a f := by
  pointwise [attRef, rowOf]
  simp only [pairVals_at, probRef_at, logitRef_at]
  unfold mixAtt att
  refine Finset.sum_congr rfl fun J _ => ?_
  have e (h1 h2) : (⟨128 + f.val / 256 * 64 + f.val % 64, h1⟩ : Fin 256) = ⟨128 + f.val / 256 * 64 + f.val % 64, h2⟩ := rfl
  have e' (h1) : (⟨f.val / 256 * 4 + f.val / 64 % 4, h1⟩ : Fin 8) = ⟨f.val / 64, by omega⟩ := Fin.ext (by dsimp only; omega)
  simp only [e']

end Cert.ReferenceIdeal.Value
end
-- ==== Proof.MixRefGm.lean ====
module

public import proofs.«01_k».proof.Proof.MixRefDefs

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

/-- One entry of the reference's spatial activation. -/
theorem geluRef_at (P : FVec Ideal S32x2048x3840 .f32) (b : Fin 32) (p : Fin 2048) (e : Fin 1024) :
    geluRef P (ix3 b p e) = gelu (P (ix3 b p ⟨768 + e.val, by omega⟩)) := by
  pointwise [geluRef]
  rw [gelu, neg_mul, Ideal.erfc_neg]

/-- One entry of the reference's layer normalisation. -/
theorem lnRef_at (v : FVec Ideal S32x2048x512 .f32) (g b : FVec Ideal S1x512 .f32) (r : Fin 32) (p : Fin 2048) (e : Fin 512) :
    lnRef v g b (ix3 r p e) = lnorm (fun k => v (ix3 r p k)) (fun k => g (ix2 0 k)) (fun k => b (ix2 0 k)) e := by
  pointwise [lnRef, meanRef, devRef]
  rfl

/-- One entry of the reference's spatial weight below its diagonal. -/
theorem trilRef_at (w : FVec Ideal S1x4x128x128 .f32) (g : Fin 4) (t s : Fin 128) :
    trilRef w (ix3 g t s) = if s.val ≤ t.val then w (ix4 0 g t s) else 0 := by
  pointwise [trilRef]
  have e : IntOp.cmpi CmpIPredicate.sge (IntOp.addi (BitVec.ofNat 32 t.val) 0#32) (BitVec.ofNat 32 s.val) = BitVec.ofBool (decide (s.val ≤ t.val)) := by
    revert t s
    decide +kernel
  rw [e]
  by_cases h : s.val ≤ t.val <;> simp [h, Scalar.select]

/-- One entry of the reference's spatial mixing. -/
theorem spatRef_at (l : FVec Ideal S32x2048x512 .f32) (w : FVec Ideal S1x4x128x128 .f32) (bs : FVec Ideal S1x4x128 .f32) (b : Fin 32) (n : Fin 16) (a : Fin 128)
    (f : Fin 512) :
    spatRef l w bs (ix3 b (rowOf n a) f) = (∑ s : Fin 128, trilRef w (ix3 ⟨f.val / 128, by omega⟩ a s) * l (ix3 b (rowOf n s) f)) + bs (ix3 0 ⟨f.val / 128, by omega⟩ a) := by
  pointwise [spatRef, rowOf]
  congr 1
  exact Finset.sum_congr rfl fun x _ => mul_comm _ _

/-- One entry of the spatial branch. -/
theorem gmRef_at (P : FVec Ideal S32x2048x3840 .f32) (g lb : FVec Ideal S1x512 .f32) (w : FVec Ideal S1x4x128x128 .f32) (bs : FVec Ideal S1x4x128 .f32)
    (b : Fin 32) (n : Fin 16) (a : Fin 128) (f : Fin 512) :
    gmRef P g lb w bs (ix3 b (rowOf n a) f) = mixGm (fun p e => P (ix3 b p e)) (fun k => g (ix2 0 k)) (fun k => lb (ix2 0 k))
      (fun g t s => w (ix4 0 g t s)) (fun g t => bs (ix3 0 g t)) n a f := by
  pointwise [gmRef]
  simp only [spatRef_at, trilRef_at, lnRef_at, geluRef_at]
  unfold mixGm mixLn
  pointwise [geluRef_at]
  have e (k : Fin 512) (h) : (⟨768 + (512 + k.val), h⟩ : Fin 3840) = ⟨1280 + k.val, by omega⟩ := Fin.ext (by dsimp only; omega)
  simp only [e]

/-- One entry of the reference's gate. -/
theorem sigRef_at (z : FVec Ideal S32x2048x1024 .f32) (b : Fin 32) (p : Fin 2048) (e : Fin 1024) : sigRef z (ix3 b p e) = logi (z (ix3 b p e)) := by
  pointwise [sigRef]
  rfl

/-- One entry of a branch's projection in the reference. -/
theorem branchRef_at (a : FVec Ideal S32x2048x512 .f32) (w : FVec Ideal S1x512x1024 .f32) (b : Fin 32) (p : Fin 2048) (e : Fin 1024) :
    branchRef a w (ix3 b p e) = ∑ f : Fin 512, a (ix3 b p f) * w (ix3 0 f e) := by
  pointwise [branchRef]

end Cert.ReferenceIdeal.Value
end
-- ==== Proof.MixReference.lean ====
module

public import proofs.«01_k».proof.Proof.MixRefAtt
public import proofs.«01_k».proof.Proof.MixRefGm

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Spec

/-- One entry of the reference's gated sum of both branches, projected to the output. -/
theorem mergeRef_at (P : FVec Ideal S32x2048x3840 .f32) (a g : FVec Ideal S32x2048x512 .f32) (wa wb : FVec Ideal S1x512x1024 .f32)
    (wo : FVec Ideal S1x1024x1024 .f32) (b : Fin 32) (p : Fin 2048) (d : Fin 1024) :
    mergeRef P a g wa wb wo (ix3 b p d) = ∑ k : Fin 1024, (logi (P (ix3 b p ⟨1792 + k.val, by omega⟩)) * (∑ f : Fin 512, a (ix3 b p f) * wa (ix3 0 f k))
      + logi (P (ix3 b p ⟨2816 + k.val, by omega⟩)) * (∑ f : Fin 512, g (ix3 b p f) * wb (ix3 0 f k))) * wo (ix3 0 k d) := by
  pointwise [mergeRef]
  simp only [sigRef_at, branchRef_at]
  pointwise

/-- One entry of the reference's mixer. -/
theorem resRef_at (x : FVec Ideal S32x2048x1024 .f32) (g : FVec Ideal S1x1024 .f32) (w : FVec Ideal S1x1024x3840 .f32) (s : FVec Ideal S1x8 .f32)
    (lg lb : FVec Ideal S1x512 .f32) (ws : FVec Ideal S1x4x128x128 .f32) (bs : FVec Ideal S1x4x128 .f32) (wa wb : FVec Ideal S1x512x1024 .f32)
    (wo : FVec Ideal S1x1024x1024 .f32) (g' : FVec Ideal S1x1024 .f32) (b : Fin 32) (n : Fin 16) (a : Fin 128) (d : Fin 1024) :
    resRef x g w s lg lb ws bs wa wb wo g' (ix3 b (rowOf n a) d) = mixer (fun p k => x (ix3 b p k)) (fun k => g (ix2 0 k)) (fun k e => w (ix3 0 k e))
      (fun h => s (ix2 0 h)) (fun k => lg (ix2 0 k)) (fun k => lb (ix2 0 k)) (fun g t s => ws (ix4 0 g t s)) (fun g t => bs (ix3 0 g t))
      (fun f k => wa (ix3 0 f k)) (fun f k => wb (ix3 0 f k)) (fun f k => wo (ix3 0 f k)) (fun k => g' (ix2 0 k)) n a d := by
  pointwise [resRef]
  simp only [rmsRef_at, mergeRef_at, attRef_at, gmRef_at, projRef_at]
  rfl

/-- The reference program's first result, of its arguments. -/
theorem res_eq (V0 : Valuation τ sig (Elt Ideal)) : val5 V0 (Proc.devRef .tc main_v202)
    = resRef (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11)) :=
  (val5_main_v202 V0).trans (by rfl)

end Cert.ReferenceIdeal.Value
end
-- ==== Proof.MixBlock.lean ====
module

public import proofs.«01_k».proof.Proof.Gen.KernelIdeal.Skeleton
public import proofs.«01_k».proof.Proof.MixSpec

@[expose] public section

set_option maxRecDepth 16384

noncomputable section

namespace Cert.KernelIdeal.Value

open Cert.KernelIdeal Cert.KernelIdeal.Gen Idealize.ShloMosaic Idealize.ShloMosaic.TcCoe Idealize.SL.Sem
open Cert.Spec

/-- RMS normalisation of the rows of a 256-row block with a gain row. -/
def rmsBlk (v : FVec Ideal S256x1024 .f32) (g : FVec Ideal S1x1024 .f32) : FVec Ideal S256x1024 .f32 :=
  mulf (mulf v (broadcastTo S256x1024 (rsqrt (addf (divf (shapeCast S256x1
      (multiReduction .add [1] S256 (mulf v v) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024)

/-- The normalised block times the query, key and value columns of the input weight. -/
def qkvBlk (y : FVec Ideal S256x1024 .bf16) (w : FVec Ideal S1024x768 .bf16) : FVec Ideal S256x768 .f32 :=
  matmul dot_S256x1024_S1024x768_S256x768_1_0_0_1_n_n none y (shapeCast S1024x768 w shapeCasts_S1024x768_S1024x768)
    (constant S256x768 .f32 0x00000000#32)

/-- The normalised block times 1024 columns of a weight. -/
def projBlk (y : FVec Ideal S256x1024 .bf16) (w : FVec Ideal S1024x1024 .bf16) : FVec Ideal S256x1024 .f32 :=
  matmul dot_S256x1024_S1024x1024_S256x1024_1_0_0_1_n_n none y (shapeCast S1024x1024 w shapeCasts_S1024x1024_S1024x1024)
    (constant S256x1024 .f32 0x00000000#32)

/-- The scaled queries. -/
def qBlk (p : FVec Ideal S256x768 .f32) : FVec Ideal S256x512 .bf16 :=
  truncf .bf16 (mulf (extractStridedSlice S256x512 ![0, 0] p slices_S256x768_o0_0_S256x512)
    (broadcast S256x512 (Scalar.ofBits .f32 0x3E000000#32))) bitsLt_bf16_f32

/-- The keys, each head's 64 lanes twice. -/
def kBlk (p : FVec Ideal S256x768 .f32) : FVec Ideal S256x256 .bf16 :=
  let lo := cmpi .slt (iota .tc S256x128 32 [1] iota_S256x128_d1_w32) (broadcast S256x128 64#32)
  let k := extractStridedSlice S256x128 ![0, 512] p slices_S256x768_o0_512_S256x128
  let kr := dynamicRotate 1 64#32 none k rotates_S256x128_d1
  truncf .bf16 (concatenate S256x256 1 [⟨S256x128, select lo k kr⟩, ⟨S256x128, select lo kr k⟩]
    concatenates_S256x128_S256x128_S256x256_d1) bitsLt_bf16_f32

/-- The values, transposed. -/
def vBlk (p : FVec Ideal S256x768 .f32) : FVec Ideal S128x256 .bf16 :=
  truncf .bf16 (transpose S128x256 [1, 0] (extractStridedSlice S256x128 ![0, 640] p slices_S256x768_o0_640_S256x128)
    transposes_S256x128_p1_0_S128x256) bitsLt_bf16_f32

/-- One key head's four query heads, stacked; each holds its 64 lanes of a pair and `z` in the other 64. -/
def q4Of (qh : FVec Ideal S128x256 .bf16) (z : FVec Ideal S128x128 .bf16) : FVec Ideal S512x128 .bf16 :=
  let lo := cmpi .slt (iota .tc S128x128 32 [1] iota_S128x128_d1_w32) (broadcast S128x128 64#32)
  let a := extractStridedSlice S128x128 ![0, 0] qh slices_S128x256_o0_0_S128x128
  let b := extractStridedSlice S128x128 ![0, 128] qh slices_S128x256_o0_128_S128x128
  concatenate S512x128 0 [⟨S128x128, select lo a z⟩, ⟨S128x128, select lo z a⟩, ⟨S128x128, select lo b z⟩,
    ⟨S128x128, select lo z b⟩] concatenates_S128x128_S128x128_S128x128_S128x128_S512x128_d0

/-- One key head's four query heads, stacked, zero in the lanes of the other head of a pair. -/
def q4Blk (qh : FVec Ideal S128x256 .bf16) : FVec Ideal S512x128 .bf16 :=
  q4Of qh (broadcast S128x128 (Scalar.ofBits .bf16 0x0000#16))

/-- The distance from key to query, as a word. -/
def relBlk : IVec S256x128 32 :=
  subi (addi (broadcast S256x128 128#32) (iota .tc S256x128 32 [1] iota_S256x128_d1_w32)) (iota .tc S256x128 32 [0] iota_S256x128_d0_w32)

/-- The sliding window. -/
def bandBlk : IVec S256x128 1 :=
  andi (cmpi .sge relBlk (broadcast S256x128 0#32)) (cmpi .slt relBlk (broadcast S256x128 128#32))

/-- The window of a sequence's first block: without the block before it (`w` says whether there is one). -/
def firstBlk (w : BitVec 1) : IVec S256x128 1 :=
  andi bandBlk (ori (cmpi .sge (iota .tc S256x128 32 [0] iota_S256x128_d0_w32) (broadcast S256x128 128#32)) (broadcast S256x128 w))

/-- A mask for four heads side by side. -/
def mask4 (b : IVec S256x128 1) : IVec S256x512 1 :=
  concatenate S256x512 1 [⟨S256x128, b⟩, ⟨S256x128, b⟩, ⟨S256x128, b⟩, ⟨S256x128, b⟩]
    concatenates_S256x128_S256x128_S256x128_S256x128_S256x512_d1

/-- The position bias of four heads side by side, from their slopes. -/
def biasBlk (s0 s1 s2 s3 : BitVec 32) : FVec Ideal S256x512 .f32 :=
  let r : FVec Ideal S256x128 .f32 := sitofp .f32 relBlk
  concatenate S256x512 1 [⟨S256x128, mulf r (broadcast S256x128 (Scalar.ofBits .f32 s0))⟩,
    ⟨S256x128, mulf r (broadcast S256x128 (Scalar.ofBits .f32 s1))⟩,
    ⟨S256x128, mulf r (broadcast S256x128 (Scalar.ofBits .f32 s2))⟩,
    ⟨S256x128, mulf r (broadcast S256x128 (Scalar.ofBits .f32 s3))⟩]
    concatenates_S256x128_S256x128_S256x128_S256x128_S256x512_d1

/-- The masked scores of one block and key head: keys down, query rows of four heads across. -/
def logitBlk (k2 : FVec Ideal S256x128 .bf16) (q4 : FVec Ideal S512x128 .bf16) (mask : IVec S256x512 1)
    (bias : FVec Ideal S256x512 .f32) : FVec Ideal S256x512 .f32 :=
  select mask (addf (matmul dot_S256x128_S512x128_S256x512_1_1_0_0_n_n none k2 q4 (constant S256x512 .f32 0x00000000#32)) bias)
    (broadcast S256x512 (Scalar.ofBits .f32 0xF149F2CA#32))

/-- The scores' maximum over the keys and the sink. -/
def maxBlk (l : FVec Ideal S256x512 .f32) (s : FVec Ideal S1x512 .f32) : FVec Ideal S1x512 .f32 :=
  maximumf (shapeCast S1x512 (multiReduction .maximumf [0] S512 l 0xFF800000#32 reduces_S256x512_S512 (.inl rfl) rfl)
    shapeCasts_S512_S1x512) s

/-- The exponentials of the scores less their maximum. -/
def expBlk (l : FVec Ideal S256x512 .f32) (mx : FVec Ideal S1x512 .f32) : FVec Ideal S256x512 .f32 :=
  exp (subf l (broadcastTo S256x512 mx broadcasts_S1x512_S256x512))

/-- The attention's output of one block and key head, transposed: the values times the exponentials, times the reciprocal of
    the denominator. -/
def outBlk (v2 : FVec Ideal S64x256 .bf16) (p : FVec Ideal S256x512 .f32) (mx s : FVec Ideal S1x512 .f32) : FVec Ideal S64x512 .f32 :=
  mulf (matmul dot_S64x256_S256x512_S64x512_1_0_0_1_n_n none v2 (truncf .bf16 p bitsLt_bf16_f32) (constant S64x512 .f32 0x00000000#32))
    (broadcastTo S64x512 (divf (broadcast S1x512 (Scalar.ofBits .f32 0x3F800000#32))
      (addf (shapeCast S1x512 (multiReduction .add [0] S512 p 0x00000000#32 reduces_S256x512_S512 (.inl rfl) rfl)
        shapeCasts_S512_S1x512) (exp (subf s mx)))) broadcasts_S1x512_S64x512)

/-- One block's attention over one key head, from stacked keys, queries and values. -/
def chainBlk (k2 : FVec Ideal S256x128 .bf16) (q4 : FVec Ideal S512x128 .bf16) (v2 : FVec Ideal S64x256 .bf16)
    (mask : IVec S256x512 1) (bias : FVec Ideal S256x512 .f32) (s0 : FVec Ideal S1x512 .f32) : FVec Ideal S64x512 .f32 :=
  let s := shapeCast S1x512 s0 shapeCasts_S1x512_S1x512
  let l := logitBlk k2 q4 mask bias
  outBlk v2 (expBlk l (maxBlk l s)) (maxBlk l s) s

/-- Eight query heads of one block, stacked. -/
def headsBlk (o0 o1 : FVec Ideal S64x512 .f32) : FVec Ideal S512x128 .f32 :=
  concatenate S512x128 0 [⟨S64x128, extractStridedSlice S64x128 ![0, 0] o0 slices_S64x512_o0_0_S64x128⟩,
    ⟨S64x128, extractStridedSlice S64x128 ![0, 128] o0 slices_S64x512_o0_128_S64x128⟩,
    ⟨S64x128, extractStridedSlice S64x128 ![0, 256] o0 slices_S64x512_o0_256_S64x128⟩,
    ⟨S64x128, extractStridedSlice S64x128 ![0, 384] o0 slices_S64x512_o0_384_S64x128⟩,
    ⟨S64x128, extractStridedSlice S64x128 ![0, 0] o1 slices_S64x512_o0_0_S64x128⟩,
    ⟨S64x128, extractStridedSlice S64x128 ![0, 128] o1 slices_S64x512_o0_128_S64x128⟩,
    ⟨S64x128, extractStridedSlice S64x128 ![0, 256] o1 slices_S64x512_o0_256_S64x128⟩,
    ⟨S64x128, extractStridedSlice S64x128 ![0, 384] o1 slices_S64x512_o0_384_S64x128⟩]
    concatenates_S64x128_S64x128_S64x128_S64x128_S64x128_S64x128_S64x128_S64x128_S512x128_d0

/-- The attention branch: two blocks' heads, transposed, times the branch's weight. -/
def attBlk (o00 o01 o10 o11 : FVec Ideal S64x512 .f32) (wa : FVec Ideal S512x1024 .bf16) : FVec Ideal S256x1024 .f32 :=
  matmul dot_S512x256_S512x1024_S256x1024_0_0_1_1_n_n none
    (truncf .bf16 (concatenate S512x256 1 [⟨S512x128, headsBlk o00 o01⟩, ⟨S512x128, headsBlk o10 o11⟩]
      concatenates_S512x128_S512x128_S512x256_d1) bitsLt_bf16_f32)
    (shapeCast S512x1024 wa shapeCasts_S512x1024_S512x1024) (constant S256x1024 .f32 0x00000000#32)

/-- The error linear unit on a block. -/
def geluBlk (z : FVec Ideal S256x512 .f32) : FVec Ideal S256x512 .f32 :=
  mulf (mulf (broadcast S256x512 (Scalar.ofBits .f32 0x3F000000#32)) z)
    (addf (broadcast S256x512 (Scalar.ofBits .f32 0x3F800000#32)) (erf (mulf z (broadcast S256x512 (Scalar.ofBits .f32 0x3F3504F3#32)))))

/-- The row means of a block. -/
def meanBlk (v : FVec Ideal S256x512 .f32) : FVec Ideal S256x1 .f32 :=
  divf (shapeCast S256x1 (multiReduction .add [1] S256 v 0x00000000#32 reduces_S256x512_S256 (.inl rfl) rfl) shapeCasts_S256_S256x1)
    (broadcast S256x1 (Scalar.ofBits .f32 0x44000000#32))

/-- Layer normalisation of a block's rows, with a gain and a shift. -/
def lnBlk (v : FVec Ideal S256x512 .f32) (g b : FVec Ideal S1x512 .f32) : FVec Ideal S256x512 .bf16 :=
  let vc := subf v (broadcastTo S256x512 (meanBlk v) broadcasts_S256x1_S256x512)
  truncf .bf16 (addf (mulf (mulf vc (broadcastTo S256x512 (rsqrt (addf (meanBlk (mulf vc vc))
      (broadcast S256x1 (Scalar.ofBits .f32 0x3727C5AC#32)))) broadcasts_S256x1_S256x512))
    (broadcastTo S256x512 (shapeCast S1x512 g shapeCasts_S1x512_S1x512) broadcasts_S1x512_S256x512))
    (broadcastTo S256x512 (shapeCast S1x512 b shapeCasts_S1x512_S1x512) broadcasts_S1x512_S256x512)) bitsLt_bf16_f32

/-- The lower triangle of one group's spatial weight. -/
def trilBlk (w : FVec Ideal S1x128x128 .f32) : FVec Ideal S128x128 .bf16 :=
  truncf .bf16 (select (cmpi .sle (iota .tc S128x128 32 [1] iota_S128x128_d1_w32) (iota .tc S128x128 32 [0] iota_S128x128_d0_w32))
    (shapeCast S128x128 w shapeCasts_S1x128x128_S128x128) (broadcast S128x128 (Scalar.ofBits .f32 0x00000000#32))) bitsLt_bf16_f32

/-- One group's spatial product on two blocks side by side, with its shift. -/
def spatBlk (w : FVec Ideal S1x128x128 .f32) (l0 l1 : FVec Ideal S128x128 .bf16) (b : FVec Ideal S128x1 .f32) : FVec Ideal S128x256 .f32 :=
  addf (matmul dot_S128x128_S128x256_S128x256_1_0_0_1_n_n none (trilBlk w)
      (concatenate S128x256 1 [⟨S128x128, l0⟩, ⟨S128x128, l1⟩] concatenates_S128x128_S128x128_S128x256_d1)
      (constant S128x256 .f32 0x00000000#32))
    (broadcastTo S128x256 (shapeCast S128x1 b shapeCasts_S128x1_S128x1) broadcasts_S128x1_S128x256)

/-- Four groups' spatial products, side by side, one block over the other. -/
def joinBlk (f0 f1 f2 f3 : FVec Ideal S128x256 .f32) : FVec Ideal S256x512 .f32 :=
  concatenate S256x512 0 [
    ⟨S128x512, concatenate S128x512 1 [⟨S128x128, extractStridedSlice S128x128 ![0, 0] f0 slices_S128x256_o0_0_S128x128⟩,
      ⟨S128x128, extractStridedSlice S128x128 ![0, 0] f1 slices_S128x256_o0_0_S128x128⟩,
      ⟨S128x128, extractStridedSlice S128x128 ![0, 0] f2 slices_S128x256_o0_0_S128x128⟩,
      ⟨S128x128, extractStridedSlice S128x128 ![0, 0] f3 slices_S128x256_o0_0_S128x128⟩]
      concatenates_S128x128_S128x128_S128x128_S128x128_S128x512_d1⟩,
    ⟨S128x512, concatenate S128x512 1 [⟨S128x128, extractStridedSlice S128x128 ![0, 128] f0 slices_S128x256_o0_128_S128x128⟩,
      ⟨S128x128, extractStridedSlice S128x128 ![0, 128] f1 slices_S128x256_o0_128_S128x128⟩,
      ⟨S128x128, extractStridedSlice S128x128 ![0, 128] f2 slices_S128x256_o0_128_S128x128⟩,
      ⟨S128x128, extractStridedSlice S128x128 ![0, 128] f3 slices_S128x256_o0_128_S128x128⟩]
      concatenates_S128x128_S128x128_S128x128_S128x128_S128x512_d1⟩] concatenates_S128x512_S128x512_S256x512_d0

/-- The spatial branch: the gated linear unit times its weight. -/
def gmBlk (u f : FVec Ideal S256x512 .f32) (wb : FVec Ideal S512x1024 .bf16) : FVec Ideal S256x1024 .f32 :=
  matmul dot_S256x512_S512x1024_S256x1024_1_0_0_1_n_n none (truncf .bf16 (mulf u f) bitsLt_bf16_f32)
    (shapeCast S512x1024 wb shapeCasts_S512x1024_S512x1024) (constant S256x1024 .f32 0x00000000#32)

/-- The sigmoid on a block. -/
def sigBlk (z : FVec Ideal S256x1024 .f32) : FVec Ideal S256x1024 .f32 :=
  addf (mulf (broadcast S256x1024 (Scalar.ofBits .f32 0x3F000000#32)) (tanh (mulf (broadcast S256x1024 (Scalar.ofBits .f32 0x3F000000#32)) z)))
    (broadcast S256x1024 (Scalar.ofBits .f32 0x3F000000#32))

/-- The merged branches times the output weight. -/
def mergeBlk (ga gb a b : FVec Ideal S256x1024 .f32) (wo : FVec Ideal S1024x1024 .bf16) : FVec Ideal S256x1024 .f32 :=
  projBlk (truncf .bf16 (addf (mulf (sigBlk ga) a) (mulf (sigBlk gb) b)) bitsLt_bf16_f32) wo

/-- One entry of the block's normalised row. -/
theorem rmsBlk_at (v : FVec Ideal S256x1024 .f32) (g : FVec Ideal S1x1024 .f32) (r : Fin 256) (d : Fin 1024) :
    rmsBlk v g (ix2 r d) = rms (fun k => v (ix2 r k)) (fun k => g (ix2 0 k)) d := by
  pointwise [rmsBlk]
  rfl

/-- One entry of the projection to queries, keys and values. -/
theorem qkvBlk_at (v : FVec Ideal S256x1024 .bf16) (w : FVec Ideal S1024x768 .bf16) (r : Fin 256) (d : Fin 768) :
    qkvBlk v w (ix2 r d) = ∑ k : Fin 1024, v (ix2 r k) * w (ix2 k d) := by
  pointwise [qkvBlk]

/-- One entry of a projection to 1024 columns. -/
theorem projBlk_at (v : FVec Ideal S256x1024 .bf16) (w : FVec Ideal S1024x1024 .bf16) (r : Fin 256) (d : Fin 1024) :
    projBlk v w (ix2 r d) = ∑ k : Fin 1024, v (ix2 r k) * w (ix2 k d) := by
  pointwise [projBlk]

/-- One entry of the queries, scaled by one eighth. -/
theorem qBlk_at (p : FVec Ideal S256x768 .f32) (r : Fin 256) (d : Fin 512) :
    qBlk p (ix2 r d) = p (ix2 r ⟨d.val, by omega⟩) * Ideal.ofBits .f32 0x3E000000#32 := by
  pointwise [qBlk]

/-- One entry of the transposed values. -/
theorem vBlk_at (p : FVec Ideal S256x768 .f32) (e : Fin 128) (r : Fin 256) :
    vBlk p (ix2 e r) = p (ix2 r ⟨640 + e.val, by omega⟩) := by
  pointwise [vBlk]

/-- The lanes below 64, as the kernel compares them. -/
theorem lane_lt (c : Fin 256) (k : Nat) (hk : k = 0 ∨ k = 128) : IntOp.cmpi CmpIPredicate.slt (BitVec.ofNat 32 (c.val - k)) 64#32 = BitVec.ofBool (decide (c.val - k < 64)) := by
  rcases hk with rfl | rfl <;> (revert c; decide +kernel)

/-- Selecting by a decided condition is a case split. -/
theorem pick_lt {α : Type} (p : Prop) [Decidable p] (a b : α) : Scalar.select (BitVec.ofBool (decide p)) a b = if p then a else b := by
  by_cases h : p <;> simp [h, Scalar.select]

/-- One entry of the keys, each key head laid out twice over 128 lanes. -/
theorem kBlk_at (p : FVec Ideal S256x768 .f32) (r : Fin 256) (x : Fin 256) :
    kBlk p (ix2 r x) = p (ix2 r ⟨512 + x.val / 128 * 64 + x.val % 64, by omega⟩) := by
  pointwise [kBlk]
  have l0 := lane_lt x 0 (.inl rfl)
  have l1 := lane_lt x 128 (.inr rfl)
  simp only [Nat.sub_zero] at l0
  have e (z w : Fin 768) (h : z.val = w.val) : p (ix2 r z) = p (ix2 r w) := by rw [Fin.ext h]
  by_cases h : x.val < 128
  · rw [dif_pos h, l0, pick_lt]
    by_cases h' : x.val < 64
    · rw [if_pos h']
      exact e _ _ (by dsimp only; omega)
    · rw [if_neg h']
      exact e _ _ (by dsimp only; omega)
  · rw [dif_neg h, l1, pick_lt]
    by_cases h' : x.val - 128 < 64
    · rw [if_pos h']
      exact e _ _ (by dsimp only; omega)
    · rw [if_neg h']
      exact e _ _ (by dsimp only; omega)

/-- Four query heads stacked, each with zeros in the lanes of the other half. -/
theorem q4Of_at (q : FVec Ideal S128x256 .bf16) (Z : FVec Ideal S128x128 .bf16) (hZ : ∀ i, Z i = 0) (g : Fin 4) (a : Fin 128) (c : Fin 128) (R : Fin 512) (h : R.val = g.val * 128 + a.val) :
    q4Of q Z (ix2 R c) = if c.val / 64 = g.val % 2 then q (ix2 a ⟨g.val / 2 * 128 + c.val, by omega⟩) else 0 := by
  pointwise [q4Of]
  have l0 := lane_lt ⟨c.val, by omega⟩ 0 (.inl rfl)
  simp only [Nat.sub_zero] at l0
  rw [l0]
  simp only [pick_lt, hZ]
  have hg : g.val = 0 ∨ g.val = 1 ∨ g.val = 2 ∨ g.val = 3 := by omega
  have e (x y : Fin 128) (z w : Fin 256) (h1 : x.val = y.val) (h2 : z.val = w.val) : q (ix2 x z) = q (ix2 y w) := by
    rw [Fin.ext h1, Fin.ext h2]
  by_cases hc : c.val < 64
  · simp only [if_pos hc]
    rcases hg with hg | hg | hg | hg
    · rw [dif_pos (by omega)]
      exact (e _ _ _ _ (by dsimp only; omega) (by dsimp only; omega)).trans (if_pos (by omega)).symm
    · rw [dif_neg (by omega), dif_pos (by omega)]
      exact (if_neg (by omega)).symm
    · rw [dif_neg (by omega), dif_neg (by omega), dif_pos (by omega)]
      exact (e _ _ _ _ (by dsimp only; omega) (by dsimp only; omega)).trans (if_pos (by omega)).symm
    · rw [dif_neg (by omega), dif_neg (by omega), dif_neg (by omega)]
      exact (if_neg (by omega)).symm
  · simp only [if_neg hc]
    rcases hg with hg | hg | hg | hg
    · rw [dif_pos (by omega)]
      exact (if_neg (by omega)).symm
    · rw [dif_neg (by omega), dif_pos (by omega)]
      exact (e _ _ _ _ (by dsimp only; omega) (by dsimp only; omega)).trans (if_pos (by omega)).symm
    · rw [dif_neg (by omega), dif_neg (by omega), dif_pos (by omega)]
      exact (if_neg (by omega)).symm
    · rw [dif_neg (by omega), dif_neg (by omega), dif_neg (by omega)]
      exact (e _ _ _ _ (by dsimp only; omega) (by dsimp only; omega)).trans (if_pos (by omega)).symm

/-- One entry of the stacked queries. -/
theorem q4Blk_at (q : FVec Ideal S128x256 .bf16) (g : Fin 4) (a : Fin 128) (c : Fin 128) (R : Fin 512) (h : R.val = g.val * 128 + a.val) :
    q4Blk q (ix2 R c) = if c.val / 64 = g.val % 2 then q (ix2 a ⟨g.val / 2 * 128 + c.val, by omega⟩) else 0 := by
  rw [q4Blk]
  exact q4Of_at q _ (fun i => Ideal.ofBits_zero_bf16) g a c R h

/-- One masked score with its position bias. -/
theorem logitBlk_at (k2 : FVec Ideal S256x128 .bf16) (q4 : FVec Ideal S512x128 .bf16) (mask : IVec S256x512 1)
    (bias : FVec Ideal S256x512 .f32) (J : Fin 256) (R : Fin 512) :
    logitBlk k2 q4 mask bias (ix2 J R) = Scalar.select (mask (ix2 J R)) ((∑ c : Fin 128, k2 (ix2 J c) * q4 (ix2 R c)) + bias (ix2 J R))
      (Ideal.ofBits .f32 0xF149F2CA#32) := by
  pointwise [logitBlk]

/-- The largest score of a column, the sink among them. -/
theorem maxBlk_at (l : FVec Ideal S256x512 .f32) (s : FVec Ideal S1x512 .f32) (R : Fin 512) :
    maxBlk l s (ix2 0 R) = top (fun J : Fin 256 => l (ix2 J R)) (s (ix2 0 R)) := by
  pointwise [maxBlk]
  rfl

/-- The exponential of a score below the largest. -/
theorem expBlk_at (l : FVec Ideal S256x512 .f32) (mx : FVec Ideal S1x512 .f32) (J : Fin 256) (R : Fin 512) :
    expBlk l mx (ix2 J R) = Ideal.exp (l (ix2 J R) - mx (ix2 0 R)) := by
  pointwise [expBlk]

/-- The weighted values times the reciprocal of the denominator. -/
theorem outBlk_at (v2 : FVec Ideal S64x256 .bf16) (p : FVec Ideal S256x512 .f32) (mx s : FVec Ideal S1x512 .f32) (d : Fin 64) (R : Fin 512) :
    outBlk v2 p mx s (ix2 d R) = (∑ J : Fin 256, v2 (ix2 d J) * p (ix2 J R))
      * Ideal.div 1 ((∑ J : Fin 256, p (ix2 J R)) + Ideal.exp (s (ix2 0 R) - mx (ix2 0 R))) := by
  pointwise [outBlk]

/-- One entry of the spatial branch's activation. -/
theorem geluBlk_at (z : FVec Ideal S256x512 .f32) (r : Fin 256) (e : Fin 512) : geluBlk z (ix2 r e) = gelu (z (ix2 r e)) := by
  pointwise [geluBlk]
  rfl

/-- The mean of a row. -/
theorem meanBlk_at (v : FVec Ideal S256x512 .f32) (r : Fin 256) :
    meanBlk v (ix2 r 0) = Ideal.div (∑ k : Fin 512, v (ix2 r k)) (Ideal.ofBits .f32 0x44000000#32) := by
  pointwise [meanBlk]

/-- One entry of the layer normalisation. -/
theorem lnBlk_at (v : FVec Ideal S256x512 .f32) (g b : FVec Ideal S1x512 .f32) (r : Fin 256) (e : Fin 512) :
    lnBlk v g b (ix2 r e) = lnorm (fun k => v (ix2 r k)) (fun k => g (ix2 0 k)) (fun k => b (ix2 0 k)) e := by
  pointwise [lnBlk, meanBlk]
  rfl

/-- One entry of the spatial weight below its diagonal. -/
theorem trilBlk_at (w : FVec Ideal S1x128x128 .f32) (t s : Fin 128) :
    trilBlk w (ix2 t s) = if s.val ≤ t.val then w (ix3 0 t s) else 0 := by
  pointwise [trilBlk]
  have e : IntOp.cmpi CmpIPredicate.sle (BitVec.ofNat 32 s.val) (BitVec.ofNat 32 t.val) = BitVec.ofBool (decide (s.val ≤ t.val)) := by
    revert t s
    decide +kernel
  rw [e, pick_lt]

/-- The distance of a key from a query. -/
theorem relBlk_at (J : Fin 256) (a : Fin 128) : relBlk (ix2 J a) = rel a J := by
  pointwise [relBlk]
  rfl

/-- One entry of the spatial mixing of two blocks side by side. -/
theorem spatBlk_at (w : FVec Ideal S1x128x128 .f32) (l0 l1 : FVec Ideal S128x128 .bf16) (b : FVec Ideal S128x1 .f32) (t : Fin 128) (x : Fin 256) :
    spatBlk w l0 l1 b (ix2 t x) = (∑ s : Fin 128, (if s.val ≤ t.val then w (ix3 0 t s) else 0)
      * (if h : x.val < 128 then l0 (ix2 s ⟨x.val, h⟩) else l1 (ix2 s ⟨x.val - 128, by omega⟩))) + b (ix2 t 0) := by
  pointwise [spatBlk]
  simp only [trilBlk_at]

/-- The four groups of columns joined, two blocks of rows one above the other. -/
theorem joinBlk_at (f : Fin 4 → FVec Ideal S128x256 .f32) (r : Fin 256) (e : Fin 512) (i : Fin 2) (t : Fin 128) (g : Fin 4) (c : Fin 128)
    (hr : r.val = i.val * 128 + t.val) (he : e.val = g.val * 128 + c.val) :
    joinBlk (f 0) (f 1) (f 2) (f 3) (ix2 r e) = f g (ix2 t ⟨i.val * 128 + c.val, by omega⟩) := by
  pointwise [joinBlk]
  have hh (k : Fin 4) (x y : Fin 128) (z w : Fin 256) (h1 : x.val = y.val) (h2 : z.val = w.val) : f k (ix2 x z) = f k (ix2 y w) := by
    rw [Fin.ext h1, Fin.ext h2]
  by_cases h : r.val < 128
  · rw [dif_pos h]
    obtain rfl | rfl | rfl | rfl : g = 0 ∨ g = 1 ∨ g = 2 ∨ g = 3 := by omega
    · replace he : e.val = 0 + c.val := he
      rw [dif_pos (by omega)]
      exact hh _ _ _ _ _ (by dsimp only; omega) (by dsimp only; omega)
    · replace he : e.val = 128 + c.val := he
      rw [dif_neg (by omega), dif_pos (by omega)]
      exact hh _ _ _ _ _ (by dsimp only; omega) (by dsimp only; omega)
    · replace he : e.val = 256 + c.val := he
      rw [dif_neg (by omega), dif_neg (by omega), dif_pos (by omega)]
      exact hh _ _ _ _ _ (by dsimp only; omega) (by dsimp only; omega)
    · replace he : e.val = 384 + c.val := he
      rw [dif_neg (by omega), dif_neg (by omega), dif_neg (by omega)]
      exact hh _ _ _ _ _ (by dsimp only; omega) (by dsimp only; omega)
  · rw [dif_neg h]
    obtain rfl | rfl | rfl | rfl : g = 0 ∨ g = 1 ∨ g = 2 ∨ g = 3 := by omega
    · replace he : e.val = 0 + c.val := he
      rw [dif_pos (by omega)]
      exact hh _ _ _ _ _ (by dsimp only; omega) (by dsimp only; omega)
    · replace he : e.val = 128 + c.val := he
      rw [dif_neg (by omega), dif_pos (by omega)]
      exact hh _ _ _ _ _ (by dsimp only; omega) (by dsimp only; omega)
    · replace he : e.val = 256 + c.val := he
      rw [dif_neg (by omega), dif_neg (by omega), dif_pos (by omega)]
      exact hh _ _ _ _ _ (by dsimp only; omega) (by dsimp only; omega)
    · replace he : e.val = 384 + c.val := he
      rw [dif_neg (by omega), dif_neg (by omega), dif_neg (by omega)]
      exact hh _ _ _ _ _ (by dsimp only; omega) (by dsimp only; omega)

set_option maxHeartbeats 2000000 in
/-- The eight heads' outputs gathered from their stacks. -/
theorem headsBlk_at (o : Fin 2 → FVec Ideal S64x512 .f32) (e : Fin 512) (a : Fin 128) (k : Fin 2) (g : Fin 4) (d : Fin 64)
    (he : e.val = k.val * 256 + g.val * 64 + d.val) :
    headsBlk (o 0) (o 1) (ix2 e a) = o k (ix2 d ⟨g.val * 128 + a.val, by omega⟩) := by
  have hh (k : Fin 2) (x y : Fin 64) (z w : Fin 512) (h1 : x.val = y.val) (h2 : z.val = w.val) : o k (ix2 x z) = o k (ix2 y w) := by
    rw [Fin.ext h1, Fin.ext h2]
  pointwise [headsBlk]
  obtain rfl | rfl : k = 0 ∨ k = 1 := by omega
  · obtain rfl | rfl | rfl | rfl : g = 0 ∨ g = 1 ∨ g = 2 ∨ g = 3 := by omega
    · replace he : e.val = 0 + d.val := he
      rw [dif_pos (by omega)]
      exact hh _ _ _ _ _ (by dsimp only; omega) (by dsimp only; omega)
    · replace he : e.val = 64 + d.val := he
      rw [dif_neg (by omega), dif_pos (by omega)]
      exact hh _ _ _ _ _ (by dsimp only; omega) (by dsimp only; omega)
    · replace he : e.val = 128 + d.val := he
      rw [dif_neg (by omega), dif_neg (by omega), dif_pos (by omega)]
      exact hh _ _ _ _ _ (by dsimp only; omega) (by dsimp only; omega)
    · replace he : e.val = 192 + d.val := he
      rw [dif_neg (by omega), dif_neg (by omega), dif_neg (by omega), dif_pos (by omega)]
      exact hh _ _ _ _ _ (by dsimp only; omega) (by dsimp only; omega)
  · obtain rfl | rfl | rfl | rfl : g = 0 ∨ g = 1 ∨ g = 2 ∨ g = 3 := by omega
    · replace he : e.val = 256 + d.val := he
      rw [dif_neg (by omega), dif_neg (by omega), dif_neg (by omega), dif_neg (by omega), dif_pos (by omega)]
      exact hh _ _ _ _ _ (by dsimp only; omega) (by dsimp only; omega)
    · replace he : e.val = 320 + d.val := he
      rw [dif_neg (by omega), dif_neg (by omega), dif_neg (by omega), dif_neg (by omega), dif_neg (by omega), dif_pos (by omega)]
      exact hh _ _ _ _ _ (by dsimp only; omega) (by dsimp only; omega)
    · replace he : e.val = 384 + d.val := he
      rw [dif_neg (by omega), dif_neg (by omega), dif_neg (by omega), dif_neg (by omega), dif_neg (by omega), dif_neg (by omega), dif_pos (by omega)]
      exact hh _ _ _ _ _ (by dsimp only; omega) (by dsimp only; omega)
    · replace he : e.val = 448 + d.val := he
      rw [dif_neg (by omega), dif_neg (by omega), dif_neg (by omega), dif_neg (by omega), dif_neg (by omega), dif_neg (by omega), dif_neg (by omega)]
      exact hh _ _ _ _ _ (by dsimp only; omega) (by dsimp only; omega)

/-- The attention branch's projection, of two blocks of rows. -/
theorem attBlk_at (o00 o01 o10 o11 : FVec Ideal S64x512 .f32) (wa : FVec Ideal S512x1024 .bf16) (r : Fin 256) (d : Fin 1024) :
    attBlk o00 o01 o10 o11 wa (ix2 r d) = ∑ e : Fin 512, (if h : r.val < 128 then headsBlk o00 o01 (ix2 e ⟨r.val, h⟩)
      else headsBlk o10 o11 (ix2 e ⟨r.val - 128, by omega⟩)) * wa (ix2 e d) := by
  pointwise [attBlk]

/-- A mask repeated for the four stacked heads. -/
theorem mask4_at (b : IVec S256x128 1) (J : Fin 256) (R : Fin 512) : mask4 b (ix2 J R) = b (ix2 J ⟨R.val % 128, by omega⟩) := by
  pointwise [mask4]
  have hh (x y : Fin 128) (h : x.val = y.val) : b (ix2 J x) = b (ix2 J y) := by rw [Fin.ext h]
  by_cases h0 : R.val < 128
  · rw [dif_pos h0]
    exact hh _ _ (by dsimp only; omega)
  rw [dif_neg h0]
  by_cases h1 : R.val - 128 < 128
  · rw [dif_pos h1]
    exact hh _ _ (by dsimp only; omega)
  rw [dif_neg h1]
  by_cases h2 : R.val - 128 - 128 < 128
  · rw [dif_pos h2]
    exact hh _ _ (by dsimp only; omega)
  rw [dif_neg h2]
  exact hh _ _ (by dsimp only; omega)

/-- The test for a key inside the sequence, as the kernel makes it in a block that may be the first. -/
theorem valid_first : ∀ (n : Fin 16) (J : Fin 256), IntOp.ori (IntOp.cmpi CmpIPredicate.sge (BitVec.ofNat 32 J.val) 128#32) (BitVec.ofBool (decide (0 < n.val)))
    = IntOp.cmpi .sge (IntOp.addi (IntOp.muli (IntOp.subi (BitVec.ofNat 32 n.val) 1#32) 128#32) (BitVec.ofNat 32 J.val)) 0#32 := by
  decide +kernel

/-- Past the first block every key is inside the sequence. -/
theorem valid_band : ∀ (n : Fin 16) (J : Fin 256), 0 < n.val →
    IntOp.cmpi .sge (IntOp.addi (IntOp.muli (IntOp.subi (BitVec.ofNat 32 n.val) 1#32) 128#32) (BitVec.ofNat 32 J.val)) 0#32 = 1#1 := by
  decide +kernel

/-- The mask of a block that may be the first. -/
theorem firstBlk_at (n : Fin 16) (w : BitVec 1) (hw : w = BitVec.ofBool (decide (0 < n.val))) (J : Fin 256) (a : Fin 128) :
    firstBlk w (ix2 J a) = valid n.val a J := by
  pointwise [firstBlk, bandBlk]
  simp only [relBlk_at]
  rw [hw, valid_first]
  rfl

/-- The mask of every later block. -/
theorem bandBlk_at (n : Fin 16) (hn : 0 < n.val) (J : Fin 256) (a : Fin 128) : bandBlk (ix2 J a) = valid n.val a J := by
  pointwise [bandBlk]
  simp only [relBlk_at]
  unfold valid
  rw [valid_band n J hn]
  generalize IntOp.andi _ _ = x
  revert x
  decide

/-- The position bias, with the slope of the column's head. -/
theorem biasBlk_at (s : Fin 4 → BitVec 32) (J : Fin 256) (R : Fin 512) (g : Fin 4) (a : Fin 128) (hR : R.val = g.val * 128 + a.val) :
    biasBlk (s 0) (s 1) (s 2) (s 3) (ix2 J R) = (((rel a J).toInt : ℝ) : EReal) * Ideal.ofBits .f32 (s g) := by
  pointwise [biasBlk]
  simp only [relBlk_at]
  have hh (k : Fin 4) (x : Fin 128) (h : x.val = a.val) : (FloatOps.sitofp .f32 (rel x J) : Ideal .f32) * Ideal.ofBits .f32 (s k)
      = (((rel a J).toInt : ℝ) : EReal) * Ideal.ofBits .f32 (s k) := by
    rw [Fin.ext h]
    rfl
  obtain rfl | rfl | rfl | rfl : g = 0 ∨ g = 1 ∨ g = 2 ∨ g = 3 := by omega
  · replace hR : R.val = 0 + a.val := hR
    rw [dif_pos (by omega)]
    exact hh _ _ (by dsimp only; omega)
  · replace hR : R.val = 128 + a.val := hR
    rw [dif_neg (by omega), dif_pos (by omega)]
    exact hh _ _ (by dsimp only; omega)
  · replace hR : R.val = 256 + a.val := hR
    rw [dif_neg (by omega), dif_neg (by omega), dif_pos (by omega)]
    exact hh _ _ (by dsimp only; omega)
  · replace hR : R.val = 384 + a.val := hR
    rw [dif_neg (by omega), dif_neg (by omega), dif_neg (by omega)]
    exact hh _ _ (by dsimp only; omega)

/-- One entry of a gate. -/
theorem sigBlk_at (z : FVec Ideal S256x1024 .f32) (r : Fin 256) (e : Fin 1024) : sigBlk z (ix2 r e) = logi (z (ix2 r e)) := by
  pointwise [sigBlk]
  exact tanh_logi _

/-- The spatial branch's projection. -/
theorem gmBlk_at (u f : FVec Ideal S256x512 .f32) (wb : FVec Ideal S512x1024 .bf16) (r : Fin 256) (d : Fin 1024) :
    gmBlk u f wb (ix2 r d) = ∑ e : Fin 512, (u (ix2 r e) * f (ix2 r e)) * wb (ix2 e d) := by
  pointwise [gmBlk]

/-- The gated sum of both branches, projected to the output. -/
theorem mergeBlk_at (ga gb a b : FVec Ideal S256x1024 .f32) (wo : FVec Ideal S1024x1024 .bf16) (r : Fin 256) (d : Fin 1024) :
    mergeBlk ga gb a b wo (ix2 r d) = ∑ k : Fin 1024, (logi (ga (ix2 r k)) * a (ix2 r k) + logi (gb (ix2 r k)) * b (ix2 r k)) * wo (ix2 k d) := by
  pointwise [mergeBlk, projBlk]
  simp only [sigBlk_at]

end Cert.KernelIdeal.Value
end
-- ==== Proof.MixTile.lean ====
module

public import proofs.«01_k».proof.Proof.MixBlock

@[expose] public section

set_option maxRecDepth 16384

noncomputable section

namespace Cert.KernelIdeal.Value

open Cert.KernelIdeal Cert.KernelIdeal.Gen Idealize.ShloMosaic Idealize.ShloMosaic.TcCoe Idealize.SL.Sem
open Cert.Spec

/-- The normalised rows of a sub-tile. -/
def normTile (x : FVec Ideal S256x1024 .f32) (g : FVec Ideal S1x1024 .f32) : FVec Ideal S256x1024 .bf16 :=
  truncf .bf16 (rmsBlk x g) bitsLt_bf16_f32

/-- The keys of the first block's window: the block before it, then its own; key head 0. -/
def keys00 (pk : FVec Ideal S128x256 .bf16) (k : FVec Ideal S256x256 .bf16) : FVec Ideal S256x128 .bf16 :=
  concatenate S256x128 0 [⟨S128x128, extractStridedSlice S128x128 ![0, 0] pk slices_S128x256_o0_0_S128x128⟩,
    ⟨S128x128, extractStridedSlice S128x128 ![0, 0] k slices_S256x256_o0_0_S128x128⟩] concatenates_S128x128_S128x128_S256x128_d0

/-- The same for key head 1. -/
def keys01 (pk : FVec Ideal S128x256 .bf16) (k : FVec Ideal S256x256 .bf16) : FVec Ideal S256x128 .bf16 :=
  concatenate S256x128 0 [⟨S128x128, extractStridedSlice S128x128 ![0, 128] pk slices_S128x256_o0_128_S128x128⟩,
    ⟨S128x128, extractStridedSlice S128x128 ![0, 128] k slices_S256x256_o0_128_S128x128⟩] concatenates_S128x128_S128x128_S256x128_d0

/-- The keys of the second block's window; key head 0. -/
def keys10 (k : FVec Ideal S256x256 .bf16) : FVec Ideal S256x128 .bf16 :=
  concatenate S256x128 0 [⟨S128x128, extractStridedSlice S128x128 ![0, 0] k slices_S256x256_o0_0_S128x128⟩,
    ⟨S128x128, extractStridedSlice S128x128 ![128, 0] k slices_S256x256_o128_0_S128x128⟩] concatenates_S128x128_S128x128_S256x128_d0

/-- The same for key head 1. -/
def keys11 (k : FVec Ideal S256x256 .bf16) : FVec Ideal S256x128 .bf16 :=
  concatenate S256x128 0 [⟨S128x128, extractStridedSlice S128x128 ![0, 128] k slices_S256x256_o0_128_S128x128⟩,
    ⟨S128x128, extractStridedSlice S128x128 ![128, 128] k slices_S256x256_o128_128_S128x128⟩] concatenates_S128x128_S128x128_S256x128_d0

/-- The values of the first block's window, transposed; key head 0. -/
def vals00 (pv : FVec Ideal S128x128 .bf16) (v : FVec Ideal S128x256 .bf16) : FVec Ideal S64x256 .bf16 :=
  concatenate S64x256 1 [⟨S64x128, extractStridedSlice S64x128 ![0, 0] pv slices_S128x128_o0_0_S64x128⟩,
    ⟨S64x128, extractStridedSlice S64x128 ![0, 0] v slices_S128x256_o0_0_S64x128⟩] concatenates_S64x128_S64x128_S64x256_d1

/-- The same for key head 1. -/
def vals01 (pv : FVec Ideal S128x128 .bf16) (v : FVec Ideal S128x256 .bf16) : FVec Ideal S64x256 .bf16 :=
  concatenate S64x256 1 [⟨S64x128, extractStridedSlice S64x128 ![64, 0] pv slices_S128x128_o64_0_S64x128⟩,
    ⟨S64x128, extractStridedSlice S64x128 ![64, 0] v slices_S128x256_o64_0_S64x128⟩] concatenates_S64x128_S64x128_S64x256_d1

/-- The values of the second block's window, transposed; key head 0. -/
def vals10 (v : FVec Ideal S128x256 .bf16) : FVec Ideal S64x256 .bf16 :=
  concatenate S64x256 1 [⟨S64x128, extractStridedSlice S64x128 ![0, 0] v slices_S128x256_o0_0_S64x128⟩,
    ⟨S64x128, extractStridedSlice S64x128 ![0, 128] v slices_S128x256_o0_128_S64x128⟩] concatenates_S64x128_S64x128_S64x256_d1

/-- The same for key head 1. -/
def vals11 (v : FVec Ideal S128x256 .bf16) : FVec Ideal S64x256 .bf16 :=
  concatenate S64x256 1 [⟨S64x128, extractStridedSlice S64x128 ![64, 0] v slices_S128x256_o64_0_S64x128⟩,
    ⟨S64x128, extractStridedSlice S64x128 ![64, 128] v slices_S128x256_o64_128_S64x128⟩] concatenates_S64x128_S64x128_S64x256_d1

/-- Stacked queries of block 0/1 and key head 0/1. -/
def q00 (q : FVec Ideal S256x512 .bf16) : FVec Ideal S512x128 .bf16 := q4Blk (extractStridedSlice S128x256 ![0, 0] q slices_S256x512_o0_0_S128x256)
/-- Stacked queries of block 0, key head 1. -/
def q01 (q : FVec Ideal S256x512 .bf16) : FVec Ideal S512x128 .bf16 := q4Blk (extractStridedSlice S128x256 ![0, 256] q slices_S256x512_o0_256_S128x256)
/-- Stacked queries of block 1, key head 0. -/
def q10 (q : FVec Ideal S256x512 .bf16) : FVec Ideal S512x128 .bf16 := q4Blk (extractStridedSlice S128x256 ![128, 0] q slices_S256x512_o128_0_S128x256)
/-- Stacked queries of block 1, key head 1. -/
def q11 (q : FVec Ideal S256x512 .bf16) : FVec Ideal S512x128 .bf16 := q4Blk (extractStridedSlice S128x256 ![128, 256] q slices_S256x512_o128_256_S128x256)

/-- The position bias of key head 0's four heads. -/
def bias0 : FVec Ideal S256x512 .f32 := biasBlk 0xBF000000#32 0xBE800000#32 0xBE000000#32 0xBD800000#32
/-- The position bias of key head 1's four heads. -/
def bias1 : FVec Ideal S256x512 .f32 := biasBlk 0xBD000000#32 0xBC800000#32 0xBC000000#32 0xBB800000#32

/-- The attention branch of a sub-tile. -/
def attTile (p : FVec Ideal S256x768 .f32) (pk : FVec Ideal S128x256 .bf16) (pv : FVec Ideal S128x128 .bf16) (mask : IVec S256x512 1)
    (s0 s1 : FVec Ideal S1x512 .f32) (wa : FVec Ideal S512x1024 .bf16) : FVec Ideal S256x1024 .f32 :=
  attBlk (chainBlk (keys00 pk (kBlk p)) (q00 (qBlk p)) (vals00 pv (vBlk p)) mask bias0 s0)
    (chainBlk (keys01 pk (kBlk p)) (q01 (qBlk p)) (vals01 pv (vBlk p)) mask bias1 s1)
    (chainBlk (keys10 (kBlk p)) (q10 (qBlk p)) (vals10 (vBlk p)) (mask4 bandBlk) bias0 s0)
    (chainBlk (keys11 (kBlk p)) (q11 (qBlk p)) (vals11 (vBlk p)) (mask4 bandBlk) bias1 s1) wa

/-- The normalised half of the gated projection. -/
def lnTile (z : FVec Ideal S256x1024 .f32) (lg lb : FVec Ideal S1x512 .f32) : FVec Ideal S256x512 .bf16 :=
  lnBlk (geluBlk (extractStridedSlice S256x512 ![0, 512] z slices_S256x1024_o0_512_S256x512)) lg lb

/-- The spatial half of the gated branch of a sub-tile, from the normalised half. -/
def spatTile (l : FVec Ideal S256x512 .bf16) (w0 w1 w2 w3 : FVec Ideal S1x128x128 .f32) (b0 b1 b2 b3 : FVec Ideal S128x1 .f32) :
    FVec Ideal S256x512 .f32 :=
  joinBlk
    (spatBlk w0 (extractStridedSlice S128x128 ![0, 0] l slices_S256x512_o0_0_S128x128) (extractStridedSlice S128x128 ![128, 0] l slices_S256x512_o128_0_S128x128) b0)
    (spatBlk w1 (extractStridedSlice S128x128 ![0, 128] l slices_S256x512_o0_128_S128x128) (extractStridedSlice S128x128 ![128, 128] l slices_S256x512_o128_128_S128x128) b1)
    (spatBlk w2 (extractStridedSlice S128x128 ![0, 256] l slices_S256x512_o0_256_S128x128) (extractStridedSlice S128x128 ![128, 256] l slices_S256x512_o128_256_S128x128) b2)
    (spatBlk w3 (extractStridedSlice S128x128 ![0, 384] l slices_S256x512_o0_384_S128x128) (extractStridedSlice S128x128 ![128, 384] l slices_S256x512_o128_384_S128x128) b3)

/-- The gated branch of a sub-tile. -/
def gmTile (z : FVec Ideal S256x1024 .f32) (lg lb : FVec Ideal S1x512 .f32) (w0 w1 w2 w3 : FVec Ideal S1x128x128 .f32)
    (b0 b1 b2 b3 : FVec Ideal S128x1 .f32) (wb : FVec Ideal S512x1024 .bf16) : FVec Ideal S256x1024 .f32 :=
  gmBlk (geluBlk (extractStridedSlice S256x512 ![0, 0] z slices_S256x1024_o0_0_S256x512)) (spatTile (lnTile z lg lb) w0 w1 w2 w3 b0 b1 b2 b3) wb

/-- A sub-tile of the mixer: its 256 rows plus the normalised merge of both branches. -/
def mixTile (x : FVec Ideal S256x1024 .f32) (g : FVec Ideal S1x1024 .f32) (wq : FVec Ideal S1024x768 .bf16) (wz wga wgb : FVec Ideal S1024x1024 .bf16)
    (s0 s1 : FVec Ideal S1x512 .f32) (lg lb : FVec Ideal S1x512 .f32) (w0 w1 w2 w3 : FVec Ideal S1x128x128 .f32)
    (b0 b1 b2 b3 : FVec Ideal S128x1 .f32) (wa wb : FVec Ideal S512x1024 .bf16) (wo : FVec Ideal S1024x1024 .bf16) (g' : FVec Ideal S1x1024 .f32)
    (pk : FVec Ideal S128x256 .bf16) (pv : FVec Ideal S128x128 .bf16) (mask : IVec S256x512 1) : FVec Ideal S256x1024 .f32 :=
  addf x (rmsBlk (mergeBlk (projBlk (normTile x g) wga) (projBlk (normTile x g) wgb)
    (attTile (qkvBlk (normTile x g) wq) pk pv mask s0 s1 wa)
    (gmTile (projBlk (normTile x g) wz) lg lb w0 w1 w2 w3 b0 b1 b2 b3 wb) wo) g')

/-- The rows of a stored sub-tile. -/
def rows (x : FVec Ideal S1x256x1024 .f32) : FVec Ideal S256x1024 .f32 := shapeCast S256x1024 x shapeCasts_S1x256x1024_S256x1024

/-- The projection a sub-tile's queries, keys and values are read from. -/
def qkvTile (x : FVec Ideal S1x256x1024 .f32) (g : FVec Ideal S1x1024 .f32) (wq : FVec Ideal S1024x768 .bf16) : FVec Ideal S256x768 .f32 :=
  qkvBlk (normTile (rows x) g) wq

/-- The keys a sub-tile leaves to the next one. -/
def leftK (p : FVec Ideal S256x768 .f32) : FVec Ideal S128x256 .bf16 := extractStridedSlice S128x256 ![128, 0] (kBlk p) slices_S256x256_o128_0_S128x256

/-- The values a sub-tile leaves to the next one. -/
def leftV (p : FVec Ideal S256x768 .f32) : FVec Ideal S128x128 .bf16 := extractStridedSlice S128x128 ![0, 128] (vBlk p) slices_S128x256_o0_128_S128x128

/-- What is stored for a sub-tile. -/
def storeTile (x : FVec Ideal S1x256x1024 .f32) (g : FVec Ideal S1x1024 .f32) (wq : FVec Ideal S1024x768 .bf16) (wz wga wgb : FVec Ideal S1024x1024 .bf16)
    (s0 s1 : FVec Ideal S1x512 .f32) (lg lb : FVec Ideal S1x512 .f32) (w0 w1 w2 w3 : FVec Ideal S1x128x128 .f32)
    (b0 b1 b2 b3 : FVec Ideal S128x1 .f32) (wa wb : FVec Ideal S512x1024 .bf16) (wo : FVec Ideal S1024x1024 .bf16) (g' : FVec Ideal S1x1024 .f32)
    (pk : FVec Ideal S128x256 .bf16) (pv : FVec Ideal S128x128 .bf16) (mask : IVec S256x512 1) : FVec Ideal S1x256x1024 .f32 :=
  shapeCast S1x256x1024 (mixTile (rows x) g wq wz wga wgb s0 s1 lg lb w0 w1 w2 w3 b0 b1 b2 b3 wa wb wo g' pk pv mask) shapeCasts_S256x1024_S1x256x1024

end Cert.KernelIdeal.Value
end
-- ==== Proof.MixOpen.lean ====
module

public import proofs.«01_k».proof.Proof.MixTile
public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- A sub-tile's stored rows at a grid point: the point's windows, the rows `x`, and what the block before left. -/
def pointTile (c : Dev nD) (t : Fin cfg0.N) (x : FVec Ideal S1x256x1024 .f32) (pk : FVec Ideal S128x256 .bf16) (pv : FVec Ideal S128x128 .bf16)
    (mask : IVec S256x512 1) : FVec Ideal S1x256x1024 .f32 :=
  storeTile x (iblk m c 1 t) (View.ld (iblk m c 2 t) (Rect.unit ![0, 0] ![1024, 768] inb_S1024x3840_S1024x768_0_0))
    (View.ld (iblk m c 2 t) (Rect.unit ![0, 768] ![1024, 1024] inb_S1024x3840_S1024x1024_0_768))
    (View.ld (iblk m c 2 t) (Rect.unit ![0, 1792] ![1024, 1024] inb_S1024x3840_S1024x1024_0_1792))
    (View.ld (iblk m c 2 t) (Rect.unit ![0, 2816] ![1024, 1024] inb_S1024x3840_S1024x1024_0_2816))
    (View.ld (iblk m c 3 t) (Rect.unit ![0, 0] ![1, 512] inb_S2x512_S1x512_0_0))
    (View.ld (iblk m c 3 t) (Rect.unit ![1, 0] ![1, 512] inb_S2x512_S1x512_1_0))
    (iblk m c 4 t) (iblk m c 5 t)
    (View.ld (iblk m c 6 t) (Rect.unit ![0, 0, 0] ![1, 128, 128] inb_S4x128x128_S1x128x128_0_0_0))
    (View.ld (iblk m c 6 t) (Rect.unit ![1, 0, 0] ![1, 128, 128] inb_S4x128x128_S1x128x128_1_0_0))
    (View.ld (iblk m c 6 t) (Rect.unit ![2, 0, 0] ![1, 128, 128] inb_S4x128x128_S1x128x128_2_0_0))
    (View.ld (iblk m c 6 t) (Rect.unit ![3, 0, 0] ![1, 128, 128] inb_S4x128x128_S1x128x128_3_0_0))
    (View.ld (iblk m c 7 t) (Rect.unit ![0, 0] ![128, 1] inb_S128x4_S128x1_0_0))
    (View.ld (iblk m c 7 t) (Rect.unit ![0, 1] ![128, 1] inb_S128x4_S128x1_0_1))
    (View.ld (iblk m c 7 t) (Rect.unit ![0, 2] ![128, 1] inb_S128x4_S128x1_0_2))
    (View.ld (iblk m c 7 t) (Rect.unit ![0, 3] ![128, 1] inb_S128x4_S128x1_0_3))
    (iblk m c 8 t) (iblk m c 9 t) (iblk m c 10 t) (iblk m c 11 t) pk pv mask

/-- The projection of the rows `x` at a grid point. -/
def pointQkv (c : Dev nD) (t : Fin cfg0.N) (x : FVec Ideal S1x256x1024 .f32) : FVec Ideal S256x768 .f32 :=
  qkvTile x (iblk m c 1 t) (View.ld (iblk m c 2 t) (Rect.unit ![0, 0] ![1024, 768] inb_S1024x3840_S1024x768_0_0))

/-- The rows of sub-tile 0. -/
def x0 (c : Dev nD) (t : Fin cfg0.N) : FVec Ideal S1x256x1024 .f32 :=
  View.ld (iblk m c 0 t) (Rect.unit ![0, 0, 0] ![1, 256, 1024] inb_S1x1024x1024_S1x256x1024_0_0_0)
/-- The rows of sub-tile 1. -/
def x1 (c : Dev nD) (t : Fin cfg0.N) : FVec Ideal S1x256x1024 .f32 :=
  View.ld (iblk m c 0 t) (Rect.unit ![0, 256, 0] ![1, 256, 1024] inb_S1x1024x1024_S1x256x1024_0_256_0)
/-- The rows of sub-tile 2. -/
def x2 (c : Dev nD) (t : Fin cfg0.N) : FVec Ideal S1x256x1024 .f32 :=
  View.ld (iblk m c 0 t) (Rect.unit ![0, 512, 0] ![1, 256, 1024] inb_S1x1024x1024_S1x256x1024_0_512_0)
/-- The rows of sub-tile 3. -/
def x3 (c : Dev nD) (t : Fin cfg0.N) : FVec Ideal S1x256x1024 .f32 :=
  View.ld (iblk m c 0 t) (Rect.unit ![0, 768, 0] ![1, 256, 1024] inb_S1x1024x1024_S1x256x1024_0_768_0)

/-- The rows stored at a point whose first sub-tile follows the keys `pk` and values `pv`. -/
def canonTile (c : Dev nD) (t : Fin cfg0.N) (pk : FVec Ideal S128x256 .bf16) (pv : FVec Ideal S128x128 .bf16) : Vec Ideal S1x1024x1024 .f32 :=
  View.canon [
    ⟨Rect.unit ![0, 768, 0] ![1, 256, 1024] inb_S1x1024x1024_S1x256x1024_0_768_0,
      pointTile m c t (x3 m c t) (leftK (pointQkv m c t (x2 m c t))) (leftV (pointQkv m c t (x2 m c t))) (mask4 bandBlk)⟩,
    ⟨Rect.unit ![0, 512, 0] ![1, 256, 1024] inb_S1x1024x1024_S1x256x1024_0_512_0,
      pointTile m c t (x2 m c t) (leftK (pointQkv m c t (x1 m c t))) (leftV (pointQkv m c t (x1 m c t))) (mask4 bandBlk)⟩,
    ⟨Rect.unit ![0, 256, 0] ![1, 256, 1024] inb_S1x1024x1024_S1x256x1024_0_256_0,
      pointTile m c t (x1 m c t) (leftK (pointQkv m c t (x0 m c t))) (leftV (pointQkv m c t (x0 m c t))) (mask4 bandBlk)⟩,
    ⟨Rect.unit ![0, 0, 0] ![1, 256, 1024] inb_S1x1024x1024_S1x256x1024_0_0_0,
      pointTile m c t (x0 m c t) pk pv (mask4 (firstBlk (Scalar.cmpi .sgt (BitVec.ofNat 32 (grid0.coords t 1).val) 0#32)))⟩]

/-- Four stored pieces, one by one. -/
theorem canon_congr {a3 b3 a2 b2 a1 b1 a0 b0 : FVec Ideal S1x256x1024 .f32} (h3 : a3 = b3) (h2 : a2 = b2) (h1 : a1 = b1) (h0 : a0 = b0) :
    (View.canon [
    ⟨Rect.unit ![0, 768, 0] ![1, 256, 1024] inb_S1x1024x1024_S1x256x1024_0_768_0, a3⟩,
    ⟨Rect.unit ![0, 512, 0] ![1, 256, 1024] inb_S1x1024x1024_S1x256x1024_0_512_0, a2⟩,
    ⟨Rect.unit ![0, 256, 0] ![1, 256, 1024] inb_S1x1024x1024_S1x256x1024_0_256_0, a1⟩,
    ⟨Rect.unit ![0, 0, 0] ![1, 256, 1024] inb_S1x1024x1024_S1x256x1024_0_0_0, a0⟩] : Vec Ideal S1x1024x1024 .f32) = View.canon [
    ⟨Rect.unit ![0, 768, 0] ![1, 256, 1024] inb_S1x1024x1024_S1x256x1024_0_768_0, b3⟩,
    ⟨Rect.unit ![0, 512, 0] ![1, 256, 1024] inb_S1x1024x1024_S1x256x1024_0_512_0, b2⟩,
    ⟨Rect.unit ![0, 256, 0] ![1, 256, 1024] inb_S1x1024x1024_S1x256x1024_0_256_0, b1⟩,
    ⟨Rect.unit ![0, 0, 0] ![1, 256, 1024] inb_S1x1024x1024_S1x256x1024_0_0_0, b0⟩] := by
  subst h3; subst h2; subst h1; subst h0; rfl

/-- The scratch keys of the point before. -/
def oldK (c : Dev nD) (t : Fin cfg0.N) : Vec Ideal S2x128x256 .bf16 :=
  View.read (Elt Ideal) (View.whole cc0_scratch0) ((Memref.isWhole_whole cc0_scratch0).unread
    (outsAt0 m c (t.val - 1) (Nat.lt_of_le_of_lt (Nat.sub_le t.val 1) t.isLt)).2.2.2.2.1)

/-- The scratch values of the point before. -/
def oldV (c : Dev nD) (t : Fin cfg0.N) : Vec Ideal S2x128x128 .bf16 :=
  View.read (Elt Ideal) (View.whole cc0_scratch1) ((Memref.isWhole_whole cc0_scratch1).unread
    (outsAt0 m c (t.val - 1) (Nat.lt_of_le_of_lt (Nat.sub_le t.val 1) t.isLt)).2.2.2.2.2)

/-- The keys read from scratch contents `k` at a point. -/
def readK (t : Fin cfg0.N) (k : Vec Ideal S2x128x256 .bf16) : FVec Ideal S128x256 .bf16 :=
  shapeCast S128x256 (View.ld k (Rect.unit (k0_off1 (grid0.coords t)) ![1, 128, 256] (k0_off1_inb (grid0.coords t)))) shapeCasts_S1x128x256_S128x256

/-- The values read from scratch contents `v` at a point. -/
def readV (t : Fin cfg0.N) (v : Vec Ideal S2x128x128 .bf16) : FVec Ideal S128x128 .bf16 :=
  shapeCast S128x128 (View.ld v (Rect.unit (k0_off2 (grid0.coords t)) ![1, 128, 128] (k0_off2_inb (grid0.coords t)))) shapeCasts_S1x128x128_S128x128

/-- The scratch keys after a sequence's first point. -/
def keptK (c : Dev nD) (t : Fin cfg0.N) : Vec Ideal S2x128x256 .bf16 :=
  View.canon [⟨Rect.unit (k0_off3 (grid0.coords t)) ![1, 128, 256] (k0_off3_inb (grid0.coords t)),
    shapeCast S1x128x256 (leftK (pointQkv m c t (x3 m c t))) shapeCasts_S128x256_S1x128x256⟩,
    ⟨Rect.unit ![0, 0, 0] ![2, 128, 256] inb_S2x128x256_S2x128x256_0_0_0, (k0_pay2 : FVec Ideal S2x128x256 .bf16)⟩]

/-- The scratch values after a sequence's first point. -/
def keptV (c : Dev nD) (t : Fin cfg0.N) : Vec Ideal S2x128x128 .bf16 :=
  View.canon [⟨Rect.unit (k0_off4 (grid0.coords t)) ![1, 128, 128] (k0_off4_inb (grid0.coords t)),
    shapeCast S1x128x128 (leftV (pointQkv m c t (x3 m c t))) shapeCasts_S128x128_S1x128x128⟩,
    ⟨Rect.unit ![0, 0, 0] ![2, 128, 128] inb_S2x128x128_S2x128x128_0_0_0, (k0_pay3 : FVec Ideal S2x128x128 .bf16)⟩]

/-- What a sequence's first point stores: four sub-tiles, the first after the zeroed scratch. -/
theorem openA (c : Dev nD) (t : Fin cfg0.N) (h : t.val % 2 = 0)
    (G : Vec Ideal S1x1024x1024 .f32) (hG : canonTile m c t (readK t (k0_pay2 : FVec Ideal S2x128x256 .bf16)) (readV t (k0_pay3 : FVec Ideal S2x128x128 .bf16)) = G) : (outsAt0 m c t.val t.isLt).1 = G := by
  rw [outsAt0_A m c t h]
  frame_out
  refine Eq.trans ?_ hG
  unfold canonTile
  refine canon_congr ?_ ?_ ?_ ?_
  all_goals
    dsimp only [readK, readV, k0_pay1, k0_pay10, k0_pay100, k0_pay101, k0_pay102, k0_pay103, k0_pay104, k0_pay105, k0_pay106, k0_pay107, k0_pay108, k0_pay109, k0_pay11, k0_pay110, k0_pay111, k0_pay112, k0_pay113, k0_pay114, k0_pay115, k0_pay116, k0_pay117, k0_pay118, k0_pay119, k0_pay12, k0_pay120, k0_pay121, k0_pay122, k0_pay123, k0_pay124, k0_pay125, k0_pay126, k0_pay127, k0_pay128, k0_pay129, k0_pay13, k0_pay130, k0_pay131, k0_pay132, k0_pay133, k0_pay134, k0_pay135, k0_pay136, k0_pay137, k0_pay138, k0_pay139, k0_pay14, k0_pay140, k0_pay141, k0_pay142, k0_pay143, k0_pay144, k0_pay145, k0_pay146, k0_pay147, k0_pay148, k0_pay149, k0_pay15, k0_pay150, k0_pay151, k0_pay152, k0_pay153, k0_pay154, k0_pay155, k0_pay156, k0_pay157, k0_pay158, k0_pay159, k0_pay16, k0_pay160, k0_pay161, k0_pay162, k0_pay163, k0_pay164, k0_pay165, k0_pay166, k0_pay167, k0_pay168, k0_pay169, k0_pay17, k0_pay170, k0_pay171, k0_pay172, k0_pay173, k0_pay174, k0_pay175, k0_pay176, k0_pay177, k0_pay178, k0_pay179, k0_pay18, k0_pay180, k0_pay181, k0_pay182, k0_pay183, k0_pay184, k0_pay185, k0_pay186, k0_pay187, k0_pay188, k0_pay189, k0_pay19, k0_pay190, k0_pay191, k0_pay192, k0_pay193, k0_pay194, k0_pay195, k0_pay196, k0_pay197, k0_pay198, k0_pay199, k0_pay20, k0_pay200, k0_pay201, k0_pay202, k0_pay203, k0_pay204, k0_pay205, k0_pay206, k0_pay207, k0_pay208, k0_pay209, k0_pay21, k0_pay210, k0_pay211, k0_pay212, k0_pay213, k0_pay214, k0_pay215, k0_pay216, k0_pay217, k0_pay218, k0_pay219, k0_pay22, k0_pay220, k0_pay221, k0_pay222, k0_pay223, k0_pay224, k0_pay225, k0_pay226, k0_pay227, k0_pay228, k0_pay229, k0_pay23, k0_pay230, k0_pay231, k0_pay232, k0_pay233, k0_pay234, k0_pay235, k0_pay236, k0_pay237, k0_pay238, k0_pay239, k0_pay24, k0_pay240, k0_pay241, k0_pay242, k0_pay243, k0_pay244, k0_pay245, k0_pay246, k0_pay247, k0_pay248, k0_pay249, k0_pay25, k0_pay250, k0_pay251, k0_pay252, k0_pay253, k0_pay254, k0_pay255, k0_pay256, k0_pay257, k0_pay258, k0_pay259, k0_pay26, k0_pay260, k0_pay261, k0_pay262, k0_pay263, k0_pay264, k0_pay265, k0_pay266, k0_pay267, k0_pay268, k0_pay269, k0_pay27, k0_pay270, k0_pay271, k0_pay272, k0_pay273, k0_pay274, k0_pay275, k0_pay276, k0_pay277, k0_pay278, k0_pay279, k0_pay28, k0_pay280, k0_pay281, k0_pay282, k0_pay283, k0_pay284, k0_pay285, k0_pay286, k0_pay287, k0_pay288, k0_pay289, k0_pay29, k0_pay290, k0_pay291, k0_pay292, k0_pay293, k0_pay294, k0_pay295, k0_pay296, k0_pay297, k0_pay298, k0_pay299, k0_pay30, k0_pay300, k0_pay301, k0_pay302, k0_pay303, k0_pay304, k0_pay305, k0_pay306, k0_pay307, k0_pay308, k0_pay309, k0_pay31, k0_pay310, k0_pay311, k0_pay312, k0_pay313, k0_pay314, k0_pay315, k0_pay316, k0_pay317, k0_pay318, k0_pay319, k0_pay32, k0_pay320, k0_pay321, k0_pay322, k0_pay323, k0_pay324, k0_pay325, k0_pay326, k0_pay327, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay76, k0_pay77, k0_pay78, k0_pay79, k0_pay8, k0_pay80, k0_pay81, k0_pay82, k0_pay83, k0_pay84, k0_pay85, k0_pay86, k0_pay87, k0_pay88, k0_pay89, k0_pay9, k0_pay90, k0_pay91, k0_pay92, k0_pay93, k0_pay94, k0_pay95, k0_pay96, k0_pay97, k0_pay98, k0_pay99, pointTile, storeTile, mixTile, rows, qkvTile, pointQkv, leftK, leftV, x0, x1, x2, x3, gmTile, spatTile, lnTile, attTile, bias0, bias1, q00, q01, q10, q11, vals00, vals01, vals10, vals11, keys00, keys01, keys10, keys11, normTile, rmsBlk, qkvBlk, projBlk, qBlk, kBlk, vBlk, q4Of, q4Blk, relBlk, bandBlk, firstBlk, mask4, biasBlk, logitBlk, maxBlk, expBlk, outBlk, chainBlk, headsBlk, attBlk, geluBlk, meanBlk, lnBlk, trilBlk, spatBlk, joinBlk, gmBlk, sigBlk, mergeBlk]
    rfl

/-- What a sequence's second point stores: four sub-tiles, the first after what the point before kept. -/
theorem openB (c : Dev nD) (t : Fin cfg0.N) (h : ¬t.val % 2 = 0)
    (G : Vec Ideal S1x1024x1024 .f32) (hG : canonTile m c t (readK t (oldK m c t)) (readV t (oldV m c t)) = G) : (outsAt0 m c t.val t.isLt).1 = G := by
  rw [outsAt0_B m c t h]
  frame_out
  refine Eq.trans ?_ hG
  unfold canonTile
  refine canon_congr ?_ ?_ ?_ ?_
  all_goals
    dsimp only [readK, readV, oldK, oldV, k0_pay1, k0_pay10, k0_pay100, k0_pay101, k0_pay102, k0_pay103, k0_pay104, k0_pay105, k0_pay106, k0_pay107, k0_pay108, k0_pay109, k0_pay11, k0_pay110, k0_pay111, k0_pay112, k0_pay113, k0_pay114, k0_pay115, k0_pay116, k0_pay117, k0_pay118, k0_pay119, k0_pay12, k0_pay120, k0_pay121, k0_pay122, k0_pay123, k0_pay124, k0_pay125, k0_pay126, k0_pay127, k0_pay128, k0_pay129, k0_pay13, k0_pay130, k0_pay131, k0_pay132, k0_pay133, k0_pay134, k0_pay135, k0_pay136, k0_pay137, k0_pay138, k0_pay139, k0_pay14, k0_pay140, k0_pay141, k0_pay142, k0_pay143, k0_pay144, k0_pay145, k0_pay146, k0_pay147, k0_pay148, k0_pay149, k0_pay15, k0_pay150, k0_pay151, k0_pay152, k0_pay153, k0_pay154, k0_pay155, k0_pay156, k0_pay157, k0_pay158, k0_pay159, k0_pay16, k0_pay160, k0_pay161, k0_pay162, k0_pay163, k0_pay164, k0_pay165, k0_pay166, k0_pay167, k0_pay168, k0_pay169, k0_pay17, k0_pay170, k0_pay171, k0_pay172, k0_pay173, k0_pay174, k0_pay175, k0_pay176, k0_pay177, k0_pay178, k0_pay179, k0_pay18, k0_pay180, k0_pay181, k0_pay182, k0_pay183, k0_pay184, k0_pay185, k0_pay186, k0_pay187, k0_pay188, k0_pay189, k0_pay19, k0_pay190, k0_pay191, k0_pay192, k0_pay193, k0_pay194, k0_pay195, k0_pay196, k0_pay197, k0_pay198, k0_pay199, k0_pay20, k0_pay200, k0_pay201, k0_pay202, k0_pay203, k0_pay204, k0_pay205, k0_pay206, k0_pay207, k0_pay208, k0_pay209, k0_pay21, k0_pay210, k0_pay211, k0_pay212, k0_pay213, k0_pay214, k0_pay215, k0_pay216, k0_pay217, k0_pay218, k0_pay219, k0_pay22, k0_pay220, k0_pay221, k0_pay222, k0_pay223, k0_pay224, k0_pay225, k0_pay226, k0_pay227, k0_pay228, k0_pay229, k0_pay23, k0_pay230, k0_pay231, k0_pay232, k0_pay233, k0_pay234, k0_pay235, k0_pay236, k0_pay237, k0_pay238, k0_pay239, k0_pay24, k0_pay240, k0_pay241, k0_pay242, k0_pay243, k0_pay244, k0_pay245, k0_pay246, k0_pay247, k0_pay248, k0_pay249, k0_pay25, k0_pay250, k0_pay251, k0_pay252, k0_pay253, k0_pay254, k0_pay255, k0_pay256, k0_pay257, k0_pay258, k0_pay259, k0_pay26, k0_pay260, k0_pay261, k0_pay262, k0_pay263, k0_pay264, k0_pay265, k0_pay266, k0_pay267, k0_pay268, k0_pay269, k0_pay27, k0_pay270, k0_pay271, k0_pay272, k0_pay273, k0_pay274, k0_pay275, k0_pay276, k0_pay277, k0_pay278, k0_pay279, k0_pay28, k0_pay280, k0_pay281, k0_pay282, k0_pay283, k0_pay284, k0_pay285, k0_pay286, k0_pay287, k0_pay288, k0_pay289, k0_pay29, k0_pay290, k0_pay291, k0_pay292, k0_pay293, k0_pay294, k0_pay295, k0_pay296, k0_pay297, k0_pay298, k0_pay299, k0_pay30, k0_pay300, k0_pay301, k0_pay302, k0_pay303, k0_pay304, k0_pay305, k0_pay306, k0_pay307, k0_pay308, k0_pay309, k0_pay31, k0_pay310, k0_pay311, k0_pay312, k0_pay313, k0_pay314, k0_pay315, k0_pay316, k0_pay317, k0_pay318, k0_pay319, k0_pay32, k0_pay320, k0_pay321, k0_pay322, k0_pay323, k0_pay324, k0_pay325, k0_pay326, k0_pay327, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay61, k0_pay62, k0_pay63, k0_pay64, k0_pay65, k0_pay66, k0_pay67, k0_pay68, k0_pay69, k0_pay7, k0_pay70, k0_pay71, k0_pay72, k0_pay73, k0_pay74, k0_pay75, k0_pay76, k0_pay77, k0_pay78, k0_pay79, k0_pay8, k0_pay80, k0_pay81, k0_pay82, k0_pay83, k0_pay84, k0_pay85, k0_pay86, k0_pay87, k0_pay88, k0_pay89, k0_pay9, k0_pay90, k0_pay91, k0_pay92, k0_pay93, k0_pay94, k0_pay95, k0_pay96, k0_pay97, k0_pay98, k0_pay99, pointTile, storeTile, mixTile, rows, qkvTile, pointQkv, leftK, leftV, x0, x1, x2, x3, gmTile, spatTile, lnTile, attTile, bias0, bias1, q00, q01, q10, q11, vals00, vals01, vals10, vals11, keys00, keys01, keys10, keys11, normTile, rmsBlk, qkvBlk, projBlk, qBlk, kBlk, vBlk, q4Of, q4Blk, relBlk, bandBlk, firstBlk, mask4, biasBlk, logitBlk, maxBlk, expBlk, outBlk, chainBlk, headsBlk, attBlk, geluBlk, meanBlk, lnBlk, trilBlk, spatBlk, joinBlk, gmBlk, sigBlk, mergeBlk]
    rfl

/-- The keys a sequence's first point keeps. -/
theorem keepK (c : Dev nD) (t : Fin cfg0.N) (h : t.val % 2 = 0) (G : Vec Ideal S2x128x256 .bf16) (hG : keptK m c t = G) :
    (outsAt0 m c t.val t.isLt).2.2.2.2.1 = G := by
  rw [outsAt0_A m c t h]
  frame_out
  refine Eq.trans ?_ hG
  rfl

/-- The values a sequence's first point keeps. -/
theorem keepV (c : Dev nD) (t : Fin cfg0.N) (h : t.val % 2 = 0) (G : Vec Ideal S2x128x128 .bf16) (hG : keptV m c t = G) :
    (outsAt0 m c t.val t.isLt).2.2.2.2.2 = G := by
  rw [outsAt0_A m c t h]
  frame_out
  refine Eq.trans ?_ hG
  rfl

/-- The first cast feed-forward weight, at any point. -/
theorem cast16 (c : Dev nD) (t : Fin cfg0.N) (G : Vec Ideal S16x2816 .bf16) (hG : k0_pay29 (iblk m c 12 t) = G) : (outsAt0 m c t.val t.isLt).2.1 = G := by
  by_cases h : t.val % 2 = 0
  · rw [outsAt0_A m c t h]
    frame_out
    exact hG
  · rw [outsAt0_B m c t h]
    frame_out
    exact hG

/-- The second cast feed-forward weight, at any point. -/
theorem cast17 (c : Dev nD) (t : Fin cfg0.N) (G : Vec Ideal S16x2816 .bf16) (hG : k0_pay30 (iblk m c 13 t) = G) : (outsAt0 m c t.val t.isLt).2.2.1 = G := by
  by_cases h : t.val % 2 = 0
  · rw [outsAt0_A m c t h]
    frame_out
    exact hG
  · rw [outsAt0_B m c t h]
    frame_out
    exact hG

/-- The third cast feed-forward weight, at any point. -/
theorem cast18 (c : Dev nD) (t : Fin cfg0.N) (G : Vec Ideal S176x256 .bf16) (hG : k0_pay31 (iblk m c 14 t) = G) : (outsAt0 m c t.val t.isLt).2.2.2.1 = G := by
  by_cases h : t.val % 2 = 0
  · rw [outsAt0_A m c t h]
    frame_out
    exact hG
  · rw [outsAt0_B m c t h]
    frame_out
    exact hG

end Cert.KernelIdeal.Value
end
-- ==== Proof.MixReal.lean ====
module

public import proofs.«01_k».proof.Proof.MixSpec

@[expose] public section

set_option maxRecDepth 16384

noncomputable section

namespace Cert.Spec

open Idealize.ShloMosaic

/-- A finite value. -/
def Fin' (x : EReal) : Prop := ∃ r : ℝ, x = (r : EReal)

/-- Finite values add up to a finite one. -/
theorem fin_add {x y : EReal} (hx : Fin' x) (hy : Fin' y) : Fin' (x + y) := by
  obtain ⟨a, rfl⟩ := hx; obtain ⟨b, rfl⟩ := hy
  exact ⟨a + b, (EReal.coe_add a b).symm⟩

/-- Finite values multiply to a finite one. -/
theorem fin_mul {x y : EReal} (hx : Fin' x) (hy : Fin' y) : Fin' (x * y) := by
  obtain ⟨a, rfl⟩ := hx; obtain ⟨b, rfl⟩ := hy
  exact ⟨a * b, (EReal.coe_mul a b).symm⟩

/-- A finite sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A sum of finite values is finite. -/
theorem fin_sum {n : ℕ} (f : Fin n → EReal) (h : ∀ i, Fin' (f i)) : Fin' (∑ i, f i) := by
  choose r hr using h
  exact ⟨∑ i, r i, by rw [← coe_sum]; exact Finset.sum_congr rfl fun i _ => hr i⟩

/-- The word of one eighth. -/
theorem eighth : Ideal.ofBits .f32 0x3E000000#32 = ((1 / 8 : ℝ) : EReal) := by
  simp [Ideal.ofBits, Ideal.ieee, -EReal.coe_mul]; norm_num

/-- The word of minus infinity. -/
theorem word_bot : Ideal.ofBits .f32 0xFF800000#32 = (⊥ : EReal) := by
  simp [Ideal.ofBits, Ideal.ieee]

/-- The mask's word is finite. -/
theorem fin_mask : Fin' (Ideal.ofBits .f32 0xF149F2CA#32) := by
  simp [Ideal.ofBits, Ideal.ieee, -EReal.coe_mul, Fin']
  exact ⟨_, (EReal.coe_neg _).symm⟩

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

/-- A sum of squares, one of them infinite, is infinite. -/
theorem sq_top (x : Fin 1024 → EReal) (h : ¬∀ k, Fin' (x k)) : ∑ k, x k * x k = ⊤ := by
  obtain ⟨k, hk⟩ := not_forall.mp h
  have h1 : x k * x k = ⊤ := by
    revert hk
    induction x k using EReal.rec with
    | bot => intro _; simp
    | top => intro _; simp
    | coe r => intro hk; exact absurd ⟨r, rfl⟩ hk
  rw [← Finset.add_sum_erase _ _ (Finset.mem_univ k), h1]
  refine EReal.top_add_of_ne_bot ?_
  have h2 : 0 ≤ ∑ i ∈ Finset.univ.erase k, x i * x i := Finset.sum_nonneg fun i _ => sq_nonneg' (x i)
  exact ne_of_gt (lt_of_lt_of_le EReal.bot_lt_zero h2)

/-- Every row has finite normalised entries: one with an infinity has zeros. -/
theorem fin_rms (x g : Fin 1024 → EReal) (hg : ∀ k, Fin' (g k)) (d : Fin 1024) : Fin' (rms x g d) := by
  refine fin_mul ?_ (hg d)
  have h1 : Ideal.ofBits .f32 0x44800000#32 = ((1024 : ℝ) : EReal) := by
    simp [Ideal.ofBits, Ideal.ieee, -EReal.coe_mul]
    norm_num
  have h2 : ∃ e : ℝ, 0 < e ∧ Ideal.ofBits .f32 0x358637BD#32 = (e : EReal) := by
    refine ⟨8796093 / 8796093022208, by norm_num, ?_⟩
    simp [Ideal.ofBits, Ideal.ieee, -EReal.coe_mul]
    norm_num
  obtain ⟨e, he, h2⟩ := h2
  by_cases hx : ∀ k, Fin' (x k)
  · refine fin_mul (hx d) ?_
    choose r hr using hx
    have h3 : ∑ k, x k * x k = ((∑ k, r k * r k : ℝ) : EReal) := by
      rw [← coe_sum]; exact Finset.sum_congr rfl fun k _ => by rw [hr k, EReal.coe_mul]
    have h4 : 0 ≤ ∑ k, r k * r k := Finset.sum_nonneg fun k _ => mul_self_nonneg _
    rw [h1, h2, h3, Ideal.div_coe (by norm_num), ← EReal.coe_mul, ← EReal.coe_add, Ideal.rsqrt_coe]
    have h5 : 0 < (∑ k, r k * r k) * (1 / 1024) + e := by positivity
    rw [if_neg (not_lt.mpr h5.le), if_neg h5.ne']
    exact ⟨_, rfl⟩
  · rw [h1, h2, sq_top x hx, Ideal.div_coe (by norm_num), EReal.top_mul_coe_of_pos (by norm_num), EReal.top_add_coe]
    exact ⟨0, (mul_zero _).trans EReal.coe_zero.symm⟩

/-- The projection of a row is finite in a column of finite weights. -/
theorem fin_proj (x g : Fin 1024 → EReal) (w : Fin 1024 → Fin 3840 → EReal) (hg : ∀ k, Fin' (g k))
    (e : Fin 3840) (hw : ∀ k, Fin' (w k e)) : Fin' (proj x g w e) :=
  fin_sum _ fun k => fin_mul (fin_rms x g hg k) (hw k)

/-- Keys are finite. -/
theorem fin_keys (P : Fin 2048 → Fin 3840 → EReal) (hP : ∀ p (e : Fin 3840), e.val < 640 → Fin' (P p e)) (n : Fin 16) (J e : Fin 256)
    (he : e.val < 128) : Fin' (keys P n J e) := by
  unfold keys
  split
  · exact hP _ _ (by dsimp only; omega)
  · exact ⟨0, rfl⟩

/-- Scores are finite. -/
theorem fin_score (sl : EReal) (hsl : Fin' sl) (n : Nat) (a : Fin 128) (q : Fin 64 → EReal) (k : Fin 256 → Fin 64 → EReal) (hq : ∀ c, Fin' (q c))
    (hk : ∀ J c, Fin' (k J c)) (J : Fin 256) : Fin' (score sl n a q k J) := by
  unfold score Scalar.select
  split
  · exact fin_add (fin_mul (fin_sum _ fun c => fin_mul (hk J c) (hq c)) ⟨_, eighth⟩) (fin_mul hsl ⟨_, rfl⟩)
  · exact fin_mask

/-- The largest of finite scores and a sink below infinity is finite. -/
theorem fin_top (l : Fin 256 → EReal) (s : EReal) (hl : ∀ J, Fin' (l J)) (hs : s < ⊤) : Fin' (top l s) := by
  have h1 : top l s < ⊤ := by
    refine max_lt ?_ hs
    rw [word_bot, Finset.fold_max_lt]
    exact ⟨bot_lt_top, fun J _ => by obtain ⟨r, hr⟩ := hl J; rw [hr]; exact EReal.coe_lt_top r⟩
  have h2 : ⊥ < top l s := by
    obtain ⟨r, hr⟩ := hl 0
    refine lt_of_lt_of_le (EReal.bot_lt_coe r) (le_max_of_le_left ?_)
    rw [Finset.le_fold_max]
    exact .inr ⟨0, Finset.mem_univ _, hr.ge⟩
  exact ⟨(top l s).toReal, (EReal.coe_toReal h1.ne h2.ne').symm⟩

/-- A sum times a real that is not negative is the sum of the products, whatever the summands. -/
theorem sum_mul_coe {n : Nat} (f : Fin n → EReal) (r : ℝ) (hr : 0 ≤ r) : (∑ J, f J) * (r : EReal) = ∑ J, f J * (r : EReal) := by
  classical
  induction (Finset.univ : Finset (Fin n)) using Finset.induction_on with
  | empty => simp
  | insert a t h ih =>
    rw [Finset.sum_insert h, Finset.sum_insert h, EReal.right_distrib_of_nonneg_of_ne_top (EReal.coe_nonneg.mpr hr) (EReal.coe_ne_top r), ih]

/-- Dividing every weight by the denominator, or the weighted sum by it, is the same for finite scores and a sink below infinity. -/
theorem att_eq (l v : Fin 256 → EReal) (s : EReal) (hl : ∀ J, Fin' (l J)) (hs : s < ⊤) :
    (∑ J, v J * Ideal.exp (l J - top l s)) * Ideal.div 1 ((∑ J, Ideal.exp (l J - top l s)) + Ideal.exp (s - top l s)) = att l s v := by
  obtain ⟨T, hT⟩ := fin_top l s hl hs
  unfold att denom
  rw [hT]
  choose L hL using hl
  have h1 (J) : Ideal.exp (l J - T) = ((Real.exp (L J - T) : ℝ) : EReal) := by rw [hL, ← EReal.coe_sub, Ideal.exp_coe]
  have h2 : ∃ e : ℝ, 0 ≤ e ∧ Ideal.exp (s - T) = (e : EReal) := by
    revert hs
    induction s using EReal.rec with
    | bot => intro _; exact ⟨0, le_rfl, by rw [EReal.bot_sub]; rfl⟩
    | top => intro hs; exact absurd hs (lt_irrefl _)
    | coe S => intro _; exact ⟨Real.exp (S - T), (Real.exp_pos _).le, by rw [← EReal.coe_sub, Ideal.exp_coe]⟩
  obtain ⟨e, he, h2⟩ := h2
  have hD : 0 < (∑ J, Real.exp (L J - T)) + e :=
    add_pos_of_pos_of_nonneg (Finset.sum_pos (fun J _ => Real.exp_pos _) ⟨0, Finset.mem_univ _⟩) he
  simp only [h1, h2, coe_sum, ← EReal.coe_add, Ideal.div_coe hD.ne']
  rw [one_mul, sum_mul_coe _ _ (by positivity)]
  simp only [mul_assoc]

/-- A sum over 128 lanes of which one half is zero. -/
theorem half_sum (f : Fin 128 → EReal) (b : Fin 2) (h : ∀ c, c.val / 64 ≠ b.val → f c = 0) : ∑ c, f c = ∑ c : Fin 64, f ⟨b.val * 64 + c.val, by omega⟩ := by
  have e : ∑ c, f c = (∑ c : Fin 64, f ⟨c.val, by omega⟩) + ∑ c : Fin 64, f ⟨64 + c.val, by omega⟩ := Fin.sum_univ_add (a := 64) (b := 64) f
  rw [e]
  obtain rfl | rfl : b = 0 ∨ b = 1 := by omega
  · rw [Finset.sum_eq_zero (s := Finset.univ) (f := fun c : Fin 64 => f ⟨64 + c.val, by omega⟩) fun c _ => h _ (by dsimp only; simp), add_zero]
    exact Finset.sum_congr rfl fun c _ => congrArg f (Fin.ext (by simp))
  · rw [Finset.sum_eq_zero (s := Finset.univ) (f := fun c : Fin 64 => f ⟨c.val, by omega⟩) fun c _ => h _ (by dsimp only; simp; omega), zero_add]
    exact Finset.sum_congr rfl fun c _ => congrArg f (Fin.ext (by simp))

/-- A product of finite rows with the queries scaled by a finite factor. -/
theorem scale_sum (k q : Fin 64 → EReal) (w : EReal) (hk : ∀ c, Fin' (k c)) (hq : ∀ c, Fin' (q c)) (hw : Fin' w) :
    ∑ c, k c * (q c * w) = (∑ c, k c * q c) * w := by
  choose K hK using hk
  choose Q hQ using hq
  obtain ⟨W, rfl⟩ := hw
  simp only [hK, hQ, ← EReal.coe_mul, coe_sum, Finset.sum_mul, mul_assoc]

end Cert.Spec
-- ==== Proof.MixAtt.lean ====
module

public import proofs.«01_k».proof.Proof.MixTile
public import proofs.«01_k».proof.Proof.MixReal

@[expose] public section

set_option maxRecDepth 16384

noncomputable section

namespace Cert.KernelIdeal.Value

open Cert.KernelIdeal Cert.KernelIdeal.Gen Idealize.ShloMosaic Idealize.ShloMosaic.TcCoe Idealize.SL.Sem
open Cert.Spec

variable (P : Fin 2048 → Fin 3840 → EReal) (s : Fin 8 → EReal)

/-- One block and key head: the chain computes the attention of query `a` on head `κ * 4 + g`, lane `d`. -/
theorem chainBlk_at (hP : ∀ p (e : Fin 3840), e.val < 640 → Fin' (P p e)) (hs : ∀ h, s h < ⊤) (k2 : FVec Ideal S256x128 .bf16) (q4 : FVec Ideal S512x128 .bf16) (v2 : FVec Ideal S64x256 .bf16)
    (mask : IVec S256x512 1) (bias : FVec Ideal S256x512 .f32) (s0 : FVec Ideal S1x512 .f32) (n : Fin 16) (a : Fin 128) (κ : ℕ) (hκ : κ < 2) (g : Fin 4) (d : Fin 64)
    (f : Fin 512) (hf : f.val = κ * 256 + g.val * 64 + d.val)
    (hk : ∀ J (c : Fin 128), k2 (ix2 J c) = keys P n J ⟨κ * 64 + c.val % 64, by omega⟩)
    (hq : ∀ c : Fin 128, q4 (ix2 ⟨g.val * 128 + a.val, by omega⟩ c) = if c.val / 64 = g.val % 2
      then P (rowOf n a) ⟨κ * 256 + g.val / 2 * 128 + c.val, by omega⟩ * Ideal.ofBits .f32 0x3E000000#32 else 0)
    (hv : ∀ J, v2 (ix2 d J) = keys P n J ⟨128 + κ * 64 + d.val, by omega⟩)
    (hm : ∀ J, mask (ix2 J ⟨g.val * 128 + a.val, by omega⟩) = valid n.val a J)
    (hb : ∀ J, bias (ix2 J ⟨g.val * 128 + a.val, by omega⟩) = (((rel a J).toInt : ℝ) : EReal) * slopeOf ⟨κ * 4 + g.val, by omega⟩)
    (h0 : s0 (ix2 0 ⟨g.val * 128 + a.val, by omega⟩) = s ⟨κ * 4 + g.val, by omega⟩) :
    chainBlk k2 q4 v2 mask bias s0 (ix2 d ⟨g.val * 128 + a.val, by omega⟩) = mixAtt P s n a f := by
  have hh : (⟨f.val / 64, by omega⟩ : Fin 8) = ⟨κ * 4 + g.val, by omega⟩ := Fin.ext (by dsimp only; omega)
  have hl (J : Fin 256) : logitBlk k2 q4 mask bias (ix2 J ⟨g.val * 128 + a.val, by omega⟩) = scores P n a ⟨κ * 4 + g.val, by omega⟩ J := by
    rw [logitBlk_at, hm, hb, scores, score]
    congr 1
    congr 1
    · rw [half_sum _ ⟨g.val % 2, by omega⟩]
      · rw [← scale_sum _ _ _ (fun c => fin_keys P hP n J _ (by dsimp only; omega)) (fun c => hP _ _ (by dsimp only; omega)) ⟨_, eighth⟩]
        refine Finset.sum_congr rfl fun c _ => ?_
        rw [hk, hq, if_pos (by dsimp only; omega)]
        congr 1
        · exact congrArg (keys P n J) (Fin.ext (by dsimp only; omega))
        · exact congrArg (P (rowOf n a) · * _) (Fin.ext (by dsimp only; omega))
      · intro c hc
        rw [hq, if_neg hc, mul_zero]
    · exact mul_comm _ _
  have hsh : (shapeCast S1x512 s0 shapeCasts_S1x512_S1x512 : FVec Ideal S1x512 .f32) (ix2 0 ⟨g.val * 128 + a.val, by omega⟩) = s ⟨κ * 4 + g.val, by omega⟩ := by
    rw [← h0]
    pointwise
  have hval (J : Fin 256) : v2 (ix2 d J) = keys P n J ⟨128 + f.val / 256 * 64 + f.val % 64, by omega⟩ := by
    rw [hv]
    exact congrArg (keys P n J) (Fin.ext (by dsimp only; omega))
  dsimp only [chainBlk]
  rw [outBlk_at]
  simp only [expBlk_at, maxBlk_at]
  rw [hsh]
  simp only [hl, hval]
  rw [mixAtt, hh]
  exact att_eq _ _ _ (fun J => fin_score _ ⟨_, rfl⟩ _ _ _ _ (fun c => hP _ _ (by dsimp only; omega))
    (fun J c => fin_keys P hP n J _ (by dsimp only; omega)) J) (hs _)

/-- The slopes' words. -/
theorem slope0 (g : Fin 4) : Ideal.ofBits .f32 ((![0xBF000000#32, 0xBE800000#32, 0xBE000000#32, 0xBD800000#32] : Fin 4 → BitVec 32) g)
    = slopeOf ⟨0 * 4 + g.val, by omega⟩ := by
  fin_cases g <;> (simp [Ideal.ofBits, Ideal.ieee, -EReal.coe_mul, slopeOf]; norm_num)

/-- The slopes' words of key head 1. -/
theorem slope1 (g : Fin 4) : Ideal.ofBits .f32 ((![0xBD000000#32, 0xBC800000#32, 0xBC000000#32, 0xBB800000#32] : Fin 4 → BitVec 32) g)
    = slopeOf ⟨1 * 4 + g.val, by omega⟩ := by
  fin_cases g <;> (simp [Ideal.ofBits, Ideal.ieee, -EReal.coe_mul, slopeOf]; norm_num)

/-- The bias of key head 0. -/
theorem bias0_at (J : Fin 256) (g : Fin 4) (a : Fin 128) : bias0 (ix2 J ⟨g.val * 128 + a.val, by omega⟩)
    = (((rel a J).toInt : ℝ) : EReal) * slopeOf ⟨0 * 4 + g.val, by omega⟩ := by
  rw [← slope0]
  exact biasBlk_at ![0xBF000000#32, 0xBE800000#32, 0xBE000000#32, 0xBD800000#32] J _ g a rfl

/-- The bias of key head 1. -/
theorem bias1_at (J : Fin 256) (g : Fin 4) (a : Fin 128) : bias1 (ix2 J ⟨g.val * 128 + a.val, by omega⟩)
    = (((rel a J).toInt : ℝ) : EReal) * slopeOf ⟨1 * 4 + g.val, by omega⟩ := by
  rw [← slope1]
  exact biasBlk_at ![0xBD000000#32, 0xBC800000#32, 0xBC000000#32, 0xBB800000#32] J _ g a rfl

/-- Entries of the stacked keys and values: rows below 128 come from the block before. -/
theorem keys00_at (pk : FVec Ideal S128x256 .bf16) (k : FVec Ideal S256x256 .bf16) (J : Fin 256) (c : Fin 128) :
    keys00 pk k (ix2 J c) = if h : J.val < 128 then pk (ix2 ⟨J.val, h⟩ ⟨c.val, by omega⟩) else k (ix2 ⟨J.val - 128, by omega⟩ ⟨c.val, by omega⟩) := by
  pointwise [keys00]
/-- Entries of `keys01`. -/
theorem keys01_at (pk : FVec Ideal S128x256 .bf16) (k : FVec Ideal S256x256 .bf16) (J : Fin 256) (c : Fin 128) :
    keys01 pk k (ix2 J c) = if h : J.val < 128 then pk (ix2 ⟨J.val, h⟩ ⟨128 + c.val, by omega⟩) else k (ix2 ⟨J.val - 128, by omega⟩ ⟨128 + c.val, by omega⟩) := by
  pointwise [keys01]
/-- Entries of `keys10`. -/
theorem keys10_at (k : FVec Ideal S256x256 .bf16) (J : Fin 256) (c : Fin 128) :
    keys10 k (ix2 J c) = k (ix2 J ⟨c.val, by omega⟩) := by
  pointwise [keys10]
  split
  · rfl
  · exact congrArg (fun z => k (ix2 z _)) (Fin.ext (by dsimp only; omega))
/-- Entries of `keys11`. -/
theorem keys11_at (k : FVec Ideal S256x256 .bf16) (J : Fin 256) (c : Fin 128) :
    keys11 k (ix2 J c) = k (ix2 J ⟨128 + c.val, by omega⟩) := by
  pointwise [keys11]
  split
  · rfl
  · exact congrArg (fun z => k (ix2 z _)) (Fin.ext (by dsimp only; omega))
/-- Entries of `vals00`. -/
theorem vals00_at (pv : FVec Ideal S128x128 .bf16) (v : FVec Ideal S128x256 .bf16) (d : Fin 64) (J : Fin 256) :
    vals00 pv v (ix2 d J) = if h : J.val < 128 then pv (ix2 ⟨d.val, by omega⟩ ⟨J.val, h⟩) else v (ix2 ⟨d.val, by omega⟩ ⟨J.val - 128, by omega⟩) := by
  pointwise [vals00]
/-- Entries of `vals01`. -/
theorem vals01_at (pv : FVec Ideal S128x128 .bf16) (v : FVec Ideal S128x256 .bf16) (d : Fin 64) (J : Fin 256) :
    vals01 pv v (ix2 d J) = if h : J.val < 128 then pv (ix2 ⟨64 + d.val, by omega⟩ ⟨J.val, h⟩) else v (ix2 ⟨64 + d.val, by omega⟩ ⟨J.val - 128, by omega⟩) := by
  pointwise [vals01]
/-- Entries of `vals10`. -/
theorem vals10_at (v : FVec Ideal S128x256 .bf16) (d : Fin 64) (J : Fin 256) :
    vals10 v (ix2 d J) = v (ix2 ⟨d.val, by omega⟩ J) := by
  pointwise [vals10]
  split
  · rfl
  · exact congrArg (fun z => v (ix2 _ z)) (Fin.ext (by dsimp only; omega))
/-- Entries of `vals11`. -/
theorem vals11_at (v : FVec Ideal S128x256 .bf16) (d : Fin 64) (J : Fin 256) :
    vals11 v (ix2 d J) = v (ix2 ⟨64 + d.val, by omega⟩ J) := by
  pointwise [vals11]
  split
  · rfl
  · exact congrArg (fun z => v (ix2 _ z)) (Fin.ext (by dsimp only; omega))

/-- Entries of `q00`. -/
theorem q00_at (q : FVec Ideal S256x512 .bf16) (g : Fin 4) (a c : Fin 128) :
    q00 q (ix2 ⟨g.val * 128 + a.val, by omega⟩ c) = if c.val / 64 = g.val % 2 then q (ix2 ⟨a.val, by omega⟩ ⟨g.val / 2 * 128 + c.val, by omega⟩) else 0 := by
  rw [q00, q4Blk_at _ g a c _ rfl]
  pointwise

/-- Entries of `q01`. -/
theorem q01_at (q : FVec Ideal S256x512 .bf16) (g : Fin 4) (a c : Fin 128) :
    q01 q (ix2 ⟨g.val * 128 + a.val, by omega⟩ c) = if c.val / 64 = g.val % 2 then q (ix2 ⟨a.val, by omega⟩ ⟨256 + (g.val / 2 * 128 + c.val), by omega⟩) else 0 := by
  rw [q01, q4Blk_at _ g a c _ rfl]
  pointwise

/-- Entries of `q10`. -/
theorem q10_at (q : FVec Ideal S256x512 .bf16) (g : Fin 4) (a c : Fin 128) :
    q10 q (ix2 ⟨g.val * 128 + a.val, by omega⟩ c) = if c.val / 64 = g.val % 2 then q (ix2 ⟨128 + a.val, by omega⟩ ⟨g.val / 2 * 128 + c.val, by omega⟩) else 0 := by
  rw [q10, q4Blk_at _ g a c _ rfl]
  pointwise

/-- Entries of `q11`. -/
theorem q11_at (q : FVec Ideal S256x512 .bf16) (g : Fin 4) (a c : Fin 128) :
    q11 q (ix2 ⟨g.val * 128 + a.val, by omega⟩ c) = if c.val / 64 = g.val % 2 then q (ix2 ⟨128 + a.val, by omega⟩ ⟨256 + (g.val / 2 * 128 + c.val), by omega⟩) else 0 := by
  rw [q11, q4Blk_at _ g a c _ rfl]
  pointwise

/-- Heads of key head 0. -/
theorem heads0_at (o0 o1 : FVec Ideal S64x512 .f32) (e : Fin 512) (a : Fin 128) (g : Fin 4) (d : Fin 64) (he : e.val = g.val * 64 + d.val) :
    headsBlk o0 o1 (ix2 e a) = o0 (ix2 d ⟨g.val * 128 + a.val, by omega⟩) :=
  headsBlk_at ![o0, o1] e a 0 g d (by simp only [Fin.val_zero]; omega)

/-- Heads of key head 1. -/
theorem heads1_at (o0 o1 : FVec Ideal S64x512 .f32) (e : Fin 512) (a : Fin 128) (g : Fin 4) (d : Fin 64) (he : e.val = 256 + g.val * 64 + d.val) :
    headsBlk o0 o1 (ix2 e a) = o1 (ix2 d ⟨g.val * 128 + a.val, by omega⟩) :=
  headsBlk_at ![o0, o1] e a 1 g d (by simp only [Fin.val_one]; omega)

variable (n n' : Fin 16)

/-- A sub-tile's keys are those of its two blocks. -/
theorem kBlk_keys (hn : n'.val = n.val + 1) (p : FVec Ideal S256x768 .f32)
    (hp : ∀ (r : Fin 256) (e : Fin 768), p (ix2 r e) = P ⟨n.val * 128 + r.val, by omega⟩ ⟨e.val, by omega⟩)
    (b : Fin 16) (J : Fin 256) (r x : Fin 256) (hb : b.val * 128 + J.val = n.val * 128 + r.val + 128) (e : Fin 256) (he : e.val = x.val / 128 * 64 + x.val % 64) :
    kBlk p (ix2 r x) = keys P b J e := by
  rw [kBlk_at, hp]
  exact (keys_pos P b J e _ _ (by dsimp only; omega) (by dsimp only; omega)).symm

/-- A sub-tile's values are those of its two blocks. -/
theorem vBlk_keys (hn : n'.val = n.val + 1) (p : FVec Ideal S256x768 .f32)
    (hp : ∀ (r : Fin 256) (e : Fin 768), p (ix2 r e) = P ⟨n.val * 128 + r.val, by omega⟩ ⟨e.val, by omega⟩)
    (b : Fin 16) (J : Fin 256) (r : Fin 256) (x : Fin 128) (hb : b.val * 128 + J.val = n.val * 128 + r.val + 128) (e : Fin 256) (he : e.val = 128 + x.val) :
    vBlk p (ix2 x r) = keys P b J e := by
  rw [vBlk_at, hp]
  exact (keys_pos P b J e _ _ (by dsimp only; omega) (by dsimp only; omega)).symm

/-- A sub-tile's scaled queries. -/
theorem qBlk_rows (hn : n'.val = n.val + 1) (p : FVec Ideal S256x768 .f32)
    (hp : ∀ (r : Fin 256) (e : Fin 768), p (ix2 r e) = P ⟨n.val * 128 + r.val, by omega⟩ ⟨e.val, by omega⟩)
    (b : Fin 16) (a : Fin 128) (r : Fin 256) (x : Fin 512) (hb : b.val * 128 + a.val = n.val * 128 + r.val) (e : Fin 3840) (he : e.val = x.val) :
    qBlk p (ix2 r x) = P (rowOf b a) e * Ideal.ofBits .f32 0x3E000000#32 := by
  rw [qBlk_at, hp]
  rw [show (⟨n.val * 128 + r.val, by omega⟩ : Fin 2048) = rowOf b a from Fin.ext hb.symm, show (⟨x.val, by omega⟩ : Fin 3840) = e from Fin.ext he.symm]

/-- Block 0 of a sub-tile, key head 0: the chain computes the attention. -/
theorem chain00_at (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (pk : FVec Ideal S128x256 .bf16) (pv : FVec Ideal S128x128 .bf16) (mask : IVec S256x512 1)
    (hpk : ∀ (J : Fin 128) (x : Fin 256), pk (ix2 J x) = keys P n ⟨J.val, by omega⟩ ⟨x.val / 128 * 64 + x.val % 64, by omega⟩)
    (hpv : ∀ e J : Fin 128, pv (ix2 e J) = keys P n ⟨J.val, by omega⟩ ⟨128 + e.val, by omega⟩)
    (hm : ∀ (J : Fin 256) (R : Fin 512), mask (ix2 J R) = valid n.val ⟨R.val % 128, by omega⟩ J)
    (s0 : FVec Ideal S1x512 .f32) (h0 : ∀ R : Fin 512, s0 (ix2 0 R) = s ⟨R.val / 128, by omega⟩)
    (f : Fin 512) (a : Fin 128) (g : Fin 4) (d : Fin 64) (hf : f.val = 0 * 256 + g.val * 64 + d.val) :
    chainBlk (keys00 pk (kBlk p)) (q00 (qBlk p)) (vals00 pv (vBlk p)) mask bias0 s0 (ix2 d ⟨g.val * 128 + a.val, by omega⟩) = mixAtt P s n a f := by
  refine chainBlk_at P s hP hs _ _ _ _ _ _ n a 0 (by omega) g d f hf (fun J c => ?_) (fun c => ?_) (fun J => ?_) (fun J => ?_)
    (fun J => bias0_at J g a) ?_
  · rw [keys00_at]
    split
    · rw [hpk]; exact congrArg (keys P n _) (Fin.ext (by first | omega | (dsimp only; omega) | dsimp only))
    · exact kBlk_keys P n n' hn p hp n J _ _ (by first | omega | (dsimp only; omega) | dsimp only) _ (by first | omega | (dsimp only; omega) | dsimp only)
  · rw [q00_at]
    split
    · exact qBlk_rows P n n' hn p hp n a _ _ (by first | omega | (dsimp only; omega) | dsimp only) _ (by first | omega | (dsimp only; omega) | dsimp only)
    · rfl
  · rw [vals00_at]
    split
    · rw [hpv]; try exact congrArg (keys P n _) (Fin.ext (by first | omega | (dsimp only; omega) | dsimp only))
    · exact vBlk_keys P n n' hn p hp n J _ _ (by first | omega | (dsimp only; omega) | dsimp only) _ (by first | omega | (dsimp only; omega) | dsimp only)
  · rw [hm]
    exact congrArg (valid n.val · J) (Fin.ext (by first | omega | (dsimp only; omega) | dsimp only))
  · rw [h0]; exact congrArg s (Fin.ext (by first | omega | (dsimp only; omega) | dsimp only))

/-- Block 0 of a sub-tile, key head 1: the chain computes the attention. -/
theorem chain01_at (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (pk : FVec Ideal S128x256 .bf16) (pv : FVec Ideal S128x128 .bf16) (mask : IVec S256x512 1)
    (hpk : ∀ (J : Fin 128) (x : Fin 256), pk (ix2 J x) = keys P n ⟨J.val, by omega⟩ ⟨x.val / 128 * 64 + x.val % 64, by omega⟩)
    (hpv : ∀ e J : Fin 128, pv (ix2 e J) = keys P n ⟨J.val, by omega⟩ ⟨128 + e.val, by omega⟩)
    (hm : ∀ (J : Fin 256) (R : Fin 512), mask (ix2 J R) = valid n.val ⟨R.val % 128, by omega⟩ J)
    (s1 : FVec Ideal S1x512 .f32) (h1 : ∀ R : Fin 512, s1 (ix2 0 R) = s ⟨4 + R.val / 128, by omega⟩)
    (f : Fin 512) (a : Fin 128) (g : Fin 4) (d : Fin 64) (hf : f.val = 1 * 256 + g.val * 64 + d.val) :
    chainBlk (keys01 pk (kBlk p)) (q01 (qBlk p)) (vals01 pv (vBlk p)) mask bias1 s1 (ix2 d ⟨g.val * 128 + a.val, by omega⟩) = mixAtt P s n a f := by
  refine chainBlk_at P s hP hs _ _ _ _ _ _ n a 1 (by omega) g d f hf (fun J c => ?_) (fun c => ?_) (fun J => ?_) (fun J => ?_)
    (fun J => bias1_at J g a) ?_
  · rw [keys01_at]
    split
    · rw [hpk]; exact congrArg (keys P n _) (Fin.ext (by first | omega | (dsimp only; omega) | dsimp only))
    · exact kBlk_keys P n n' hn p hp n J _ _ (by first | omega | (dsimp only; omega) | dsimp only) _ (by first | omega | (dsimp only; omega) | dsimp only)
  · rw [q01_at]
    split
    · exact qBlk_rows P n n' hn p hp n a _ _ (by first | omega | (dsimp only; omega) | dsimp only) _ (by first | omega | (dsimp only; omega) | dsimp only)
    · rfl
  · rw [vals01_at]
    split
    · rw [hpv]; exact congrArg (keys P n _) (Fin.ext (by first | omega | (dsimp only; omega) | dsimp only))
    · exact vBlk_keys P n n' hn p hp n J _ _ (by first | omega | (dsimp only; omega) | dsimp only) _ (by first | omega | (dsimp only; omega) | dsimp only)
  · rw [hm]
    exact congrArg (valid n.val · J) (Fin.ext (by first | omega | (dsimp only; omega) | dsimp only))
  · rw [h1]; exact congrArg s (Fin.ext (by first | omega | (dsimp only; omega) | dsimp only))

/-- Block 1 of a sub-tile, key head 0: the chain computes the attention. -/
theorem chain10_at (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (s0 : FVec Ideal S1x512 .f32) (h0 : ∀ R : Fin 512, s0 (ix2 0 R) = s ⟨R.val / 128, by omega⟩)
    (f : Fin 512) (a : Fin 128) (g : Fin 4) (d : Fin 64) (hf : f.val = 0 * 256 + g.val * 64 + d.val) :
    chainBlk (keys10 (kBlk p)) (q10 (qBlk p)) (vals10 (vBlk p)) (mask4 bandBlk) bias0 s0 (ix2 d ⟨g.val * 128 + a.val, by omega⟩) = mixAtt P s n' a f := by
  refine chainBlk_at P s hP hs _ _ _ _ _ _ n' a 0 (by omega) g d f hf (fun J c => ?_) (fun c => ?_) (fun J => ?_) (fun J => ?_)
    (fun J => bias0_at J g a) ?_
  · rw [keys10_at]
    exact kBlk_keys P n n' hn p hp n' J _ _ (by first | omega | (dsimp only; omega) | dsimp only) _ (by first | omega | (dsimp only; omega) | dsimp only)
  · rw [q10_at]
    split
    · exact qBlk_rows P n n' hn p hp n' a _ _ (by first | omega | (dsimp only; omega) | dsimp only) _ (by first | omega | (dsimp only; omega) | dsimp only)
    · rfl
  · rw [vals10_at]
    exact vBlk_keys P n n' hn p hp n' J _ _ (by first | omega | (dsimp only; omega) | dsimp only) _ (by first | omega | (dsimp only; omega) | dsimp only)
  · rw [mask4_at, bandBlk_at n' (by omega)]
    exact congrArg (valid n'.val · J) (Fin.ext (by first | omega | (dsimp only; omega) | dsimp only))
  · rw [h0]; exact congrArg s (Fin.ext (by first | omega | (dsimp only; omega) | dsimp only))

/-- Block 1 of a sub-tile, key head 1: the chain computes the attention. -/
theorem chain11_at (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (s1 : FVec Ideal S1x512 .f32) (h1 : ∀ R : Fin 512, s1 (ix2 0 R) = s ⟨4 + R.val / 128, by omega⟩)
    (f : Fin 512) (a : Fin 128) (g : Fin 4) (d : Fin 64) (hf : f.val = 1 * 256 + g.val * 64 + d.val) :
    chainBlk (keys11 (kBlk p)) (q11 (qBlk p)) (vals11 (vBlk p)) (mask4 bandBlk) bias1 s1 (ix2 d ⟨g.val * 128 + a.val, by omega⟩) = mixAtt P s n' a f := by
  refine chainBlk_at P s hP hs _ _ _ _ _ _ n' a 1 (by omega) g d f hf (fun J c => ?_) (fun c => ?_) (fun J => ?_) (fun J => ?_)
    (fun J => bias1_at J g a) ?_
  · rw [keys11_at]
    exact kBlk_keys P n n' hn p hp n' J _ _ (by first | omega | (dsimp only; omega) | dsimp only) _ (by first | omega | (dsimp only; omega) | dsimp only)
  · rw [q11_at]
    split
    · exact qBlk_rows P n n' hn p hp n' a _ _ (by first | omega | (dsimp only; omega) | dsimp only) _ (by first | omega | (dsimp only; omega) | dsimp only)
    · rfl
  · rw [vals11_at]
    exact vBlk_keys P n n' hn p hp n' J _ _ (by first | omega | (dsimp only; omega) | dsimp only) _ (by first | omega | (dsimp only; omega) | dsimp only)
  · rw [mask4_at, bandBlk_at n' (by omega)]
    exact congrArg (valid n'.val · J) (Fin.ext (by first | omega | (dsimp only; omega) | dsimp only))
  · rw [h1]; exact congrArg s (Fin.ext (by first | omega | (dsimp only; omega) | dsimp only))

/-- The sub-tile's first block: its heads hold the attention's output. -/
theorem heads_first (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (pk : FVec Ideal S128x256 .bf16) (pv : FVec Ideal S128x128 .bf16) (mask : IVec S256x512 1)
    (hpk : ∀ (J : Fin 128) (x : Fin 256), pk (ix2 J x) = keys P n ⟨J.val, by omega⟩ ⟨x.val / 128 * 64 + x.val % 64, by omega⟩)
    (hpv : ∀ e J : Fin 128, pv (ix2 e J) = keys P n ⟨J.val, by omega⟩ ⟨128 + e.val, by omega⟩)
    (hm : ∀ (J : Fin 256) (R : Fin 512), mask (ix2 J R) = valid n.val ⟨R.val % 128, by omega⟩ J)
    (s0 : FVec Ideal S1x512 .f32) (h0 : ∀ R : Fin 512, s0 (ix2 0 R) = s ⟨R.val / 128, by omega⟩)
    (s1 : FVec Ideal S1x512 .f32) (h1 : ∀ R : Fin 512, s1 (ix2 0 R) = s ⟨4 + R.val / 128, by omega⟩)
    (f : Fin 512) (a : Fin 128) :
    headsBlk (chainBlk (keys00 pk (kBlk p)) (q00 (qBlk p)) (vals00 pv (vBlk p)) mask bias0 s0)
      (chainBlk (keys01 pk (kBlk p)) (q01 (qBlk p)) (vals01 pv (vBlk p)) mask bias1 s1) (ix2 f a) = mixAtt P s n a f := by
  rcases (by omega : f.val < 256 ∨ 256 ≤ f.val) with hk | hk
  · rw [heads0_at _ _ f a ⟨f.val / 64, by omega⟩ ⟨f.val % 64, by omega⟩ (by first | omega | (dsimp only; omega) | dsimp only)]
    exact chain00_at P s n n' hP hs hn p hp pk pv mask hpk hpv hm s0 h0 f a _ _ (by first | omega | (dsimp only; omega) | dsimp only)
  · rw [heads1_at _ _ f a ⟨(f.val - 256) / 64, by omega⟩ ⟨f.val % 64, by omega⟩ (by first | omega | (dsimp only; omega) | dsimp only)]
    exact chain01_at P s n n' hP hs hn p hp pk pv mask hpk hpv hm s1 h1 f a _ _ (by first | omega | (dsimp only; omega) | dsimp only)

/-- The sub-tile's second block: its heads hold the attention's output. -/
theorem heads_second (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (s0 : FVec Ideal S1x512 .f32) (h0 : ∀ R : Fin 512, s0 (ix2 0 R) = s ⟨R.val / 128, by omega⟩)
    (s1 : FVec Ideal S1x512 .f32) (h1 : ∀ R : Fin 512, s1 (ix2 0 R) = s ⟨4 + R.val / 128, by omega⟩)
    (f : Fin 512) (a : Fin 128) :
    headsBlk (chainBlk (keys10 (kBlk p)) (q10 (qBlk p)) (vals10 (vBlk p)) (mask4 bandBlk) bias0 s0)
      (chainBlk (keys11 (kBlk p)) (q11 (qBlk p)) (vals11 (vBlk p)) (mask4 bandBlk) bias1 s1) (ix2 f a) = mixAtt P s n' a f := by
  rcases (by omega : f.val < 256 ∨ 256 ≤ f.val) with hk | hk
  · rw [heads0_at _ _ f a ⟨f.val / 64, by omega⟩ ⟨f.val % 64, by omega⟩ (by first | omega | (dsimp only; omega) | dsimp only)]
    exact chain10_at P s n n' hP hs hn p hp s0 h0 f a _ _ (by first | omega | (dsimp only; omega) | dsimp only)
  · rw [heads1_at _ _ f a ⟨(f.val - 256) / 64, by omega⟩ ⟨f.val % 64, by omega⟩ (by first | omega | (dsimp only; omega) | dsimp only)]
    exact chain11_at P s n n' hP hs hn p hp s1 h1 f a _ _ (by first | omega | (dsimp only; omega) | dsimp only)

/-- The attention branch of a sub-tile: row `a` of block `b`, which is `n` or the one after it. -/
theorem attTile_at (hP : ∀ p (e : Fin 3840), e.val < 640 → Fin' (P p e)) (hs : ∀ h, s h < ⊤) (hn : n'.val = n.val + 1) (p : FVec Ideal S256x768 .f32)
    (hp : ∀ (r : Fin 256) (e : Fin 768), p (ix2 r e) = P ⟨n.val * 128 + r.val, by omega⟩ ⟨e.val, by omega⟩)
    (pk : FVec Ideal S128x256 .bf16) (pv : FVec Ideal S128x128 .bf16) (mask : IVec S256x512 1) (s0 s1 : FVec Ideal S1x512 .f32)
    (hpk : ∀ (J : Fin 128) (x : Fin 256), pk (ix2 J x) = keys P n ⟨J.val, by omega⟩ ⟨x.val / 128 * 64 + x.val % 64, by omega⟩)
    (hpv : ∀ e J : Fin 128, pv (ix2 e J) = keys P n ⟨J.val, by omega⟩ ⟨128 + e.val, by omega⟩)
    (hm : ∀ (J : Fin 256) (R : Fin 512), mask (ix2 J R) = valid n.val ⟨R.val % 128, by omega⟩ J)
    (h0 : ∀ R : Fin 512, s0 (ix2 0 R) = s ⟨R.val / 128, by omega⟩) (h1 : ∀ R : Fin 512, s1 (ix2 0 R) = s ⟨4 + R.val / 128, by omega⟩)
    (wa : FVec Ideal S512x1024 .bf16) (b : Fin 16) (a : Fin 128) (r : Fin 256) (d : Fin 1024) (hb : b.val * 128 + a.val = n.val * 128 + r.val) :
    attTile p pk pv mask s0 s1 wa (ix2 r d) = ∑ f : Fin 512, mixAtt P s b a f * wa (ix2 f d) := by
  rw [attTile, attBlk_at]
  refine Finset.sum_congr rfl fun f _ => ?_
  congr 1
  split
  · rw [heads_first P s n n' hP hs hn p hp pk pv mask hpk hpv hm s0 h0 s1 h1,
      show b = n from Fin.ext (by omega), show (⟨r.val, by omega⟩ : Fin 128) = a from Fin.ext (by first | omega | (dsimp only; omega) | dsimp only)]
  · rw [heads_second P s n n' hP hs hn p hp s0 h0 s1 h1,
      show b = n' from Fin.ext (by omega), show (⟨r.val - 128, by omega⟩ : Fin 128) = a from Fin.ext (by first | omega | (dsimp only; omega) | dsimp only)]

end Cert.KernelIdeal.Value
end
-- ==== Proof.MixGm.lean ====
module

public import proofs.«01_k».proof.Proof.MixAtt

@[expose] public section

set_option maxRecDepth 16384

noncomputable section

namespace Cert.KernelIdeal.Value

open Cert.KernelIdeal Cert.KernelIdeal.Gen Idealize.ShloMosaic Idealize.ShloMosaic.TcCoe Idealize.SL.Sem
open Cert.Spec

/-- An entry of the normalised half of the gated projection. -/
theorem lnTile_at (z : FVec Ideal S256x1024 .f32) (lg lb : FVec Ideal S1x512 .f32) (r : Fin 256) (e : Fin 512) :
    lnTile z lg lb (ix2 r e) = lnorm (fun k => gelu (z (ix2 r ⟨512 + k.val, by omega⟩))) (fun k => lg (ix2 0 k)) (fun k => lb (ix2 0 k)) e := by
  rw [lnTile, lnBlk_at]
  congr 1
  funext k
  rw [geluBlk_at]
  congr 1
  pointwise

/-- One group of the spatial product, with the two blocks' rows read from the normalised half. -/
theorem group_at (l : FVec Ideal S256x512 .bf16) (w : FVec Ideal S1x128x128 .f32) (l0 l1 : FVec Ideal S128x128 .bf16) (b : FVec Ideal S128x1 .f32)
    (g : Fin 4) (h0 : ∀ s c : Fin 128, l0 (ix2 s c) = l (ix2 ⟨s.val, by omega⟩ ⟨g.val * 128 + c.val, by omega⟩))
    (h1 : ∀ s c : Fin 128, l1 (ix2 s c) = l (ix2 ⟨128 + s.val, by omega⟩ ⟨g.val * 128 + c.val, by omega⟩))
    (t : Fin 128) (i : Fin 2) (c : Fin 128) :
    spatBlk w l0 l1 b (ix2 t ⟨i.val * 128 + c.val, by omega⟩) = (∑ s : Fin 128, (if s.val ≤ t.val then w (ix3 0 t s) else 0)
      * l (ix2 ⟨i.val * 128 + s.val, by omega⟩ ⟨g.val * 128 + c.val, by omega⟩)) + b (ix2 t 0) := by
  rw [spatBlk_at]
  congr 1
  refine Finset.sum_congr rfl fun s _ => ?_
  congr 1
  have hl (x y : Fin 256) (z v : Fin 512) (hx : x.val = y.val) (hz : z.val = v.val) : l (ix2 x z) = l (ix2 y v) := by rw [Fin.ext hx, Fin.ext hz]
  split
  · next h =>
    have h' : i.val * 128 + c.val < 128 := h
    rw [h0]
    exact hl _ _ _ _ (show s.val = i.val * 128 + s.val by omega) (show g.val * 128 + (i.val * 128 + c.val) = g.val * 128 + c.val by omega)
  · next h =>
    have h' : ¬i.val * 128 + c.val < 128 := h
    rw [h1]
    exact hl _ _ _ _ (show 128 + s.val = i.val * 128 + s.val by omega) (show g.val * 128 + (i.val * 128 + c.val - 128) = g.val * 128 + c.val by omega)

/-- An entry of the spatial half. -/
theorem spatTile_at (l : FVec Ideal S256x512 .bf16) (w : Fin 4 → FVec Ideal S1x128x128 .f32) (b : Fin 4 → FVec Ideal S128x1 .f32)
    (r : Fin 256) (e : Fin 512) (i : Fin 2) (t : Fin 128) (g : Fin 4) (c : Fin 128) (hr : r.val = i.val * 128 + t.val) (he : e.val = g.val * 128 + c.val) :
    spatTile l (w 0) (w 1) (w 2) (w 3) (b 0) (b 1) (b 2) (b 3) (ix2 r e) = (∑ s : Fin 128, (if s.val ≤ t.val then w g (ix3 0 t s) else 0)
      * l (ix2 ⟨i.val * 128 + s.val, by omega⟩ e)) + b g (ix2 t 0) := by
  rw [spatTile]
  refine (joinBlk_at ![_, _, _, _] r e i t g c hr he).trans ?_
  have hee : e = ⟨g.val * 128 + c.val, by omega⟩ := Fin.ext he
  rw [hee]
  obtain rfl | rfl | rfl | rfl : g = 0 ∨ g = 1 ∨ g = 2 ∨ g = 3 := by omega
  · exact group_at l _ _ _ _ 0 (fun s c => by pointwise) (fun s c => by pointwise) t i c
  · exact group_at l _ _ _ _ 1 (fun s c => by pointwise) (fun s c => by pointwise) t i c
  · exact group_at l _ _ _ _ 2 (fun s c => by pointwise) (fun s c => by pointwise) t i c
  · exact group_at l _ _ _ _ 3 (fun s c => by pointwise) (fun s c => by pointwise) t i c

/-- The gated branch of a sub-tile: row `a` of block `b`. -/
theorem gmTile_at (P : Fin 2048 → Fin 3840 → EReal) (n n' : Fin 16) (hn : n'.val = n.val + 1) (z : FVec Ideal S256x1024 .f32)
    (hz : ∀ (r : Fin 256) (e : Fin 1024), z (ix2 r e) = P ⟨n.val * 128 + r.val, by omega⟩ ⟨768 + e.val, by omega⟩)
    (lg lb : FVec Ideal S1x512 .f32) (w : Fin 4 → FVec Ideal S1x128x128 .f32) (bs : Fin 4 → FVec Ideal S128x1 .f32) (wb : FVec Ideal S512x1024 .bf16)
    (b : Fin 16) (a : Fin 128) (i : Fin 2) (r : Fin 256) (d : Fin 1024) (hb : b.val = n.val + i.val) (hr : r.val = i.val * 128 + a.val) :
    gmTile z lg lb (w 0) (w 1) (w 2) (w 3) (bs 0) (bs 1) (bs 2) (bs 3) wb (ix2 r d)
      = ∑ f : Fin 512, mixGm P (fun k => lg (ix2 0 k)) (fun k => lb (ix2 0 k)) (fun g t s => w g (ix3 0 t s)) (fun g t => bs g (ix2 t 0)) b a f * wb (ix2 f d) := by
  rw [gmTile, gmBlk_at]
  refine Finset.sum_congr rfl fun f _ => ?_
  congr 1
  rw [spatTile_at _ w bs r f i a ⟨f.val / 128, by omega⟩ ⟨f.val % 128, by omega⟩ hr (by dsimp only; omega), geluBlk_at, mixGm]
  have hrow (s : Fin 128) (q : Fin 256) (hq : q.val = i.val * 128 + s.val) (k : Fin 1024) (k' : Fin 3840) (hk : k'.val = 768 + k.val) :
      z (ix2 q k) = P (rowOf b s) k' := by
    rw [hz]
    rw [show (⟨n.val * 128 + q.val, by omega⟩ : Fin 2048) = rowOf b s from Fin.ext (by dsimp only [rowOf]; omega),
      show (⟨768 + k.val, by omega⟩ : Fin 3840) = k' from Fin.ext hk.symm]
  congr 1
  · congr 1
    refine Eq.trans ?_ (hrow a r hr ⟨f.val, by omega⟩ _ rfl)
    pointwise
  · congr 1
    refine Finset.sum_congr rfl fun s _ => ?_
    congr 1
    rw [lnTile_at, mixLn]
    congr 1
    funext k
    congr 1
    exact hrow s _ rfl _ _ (by dsimp only; omega)

/-- The projections of a sub-tile's rows. -/
theorem normProj_at (x : FVec Ideal S256x1024 .f32) (g : FVec Ideal S1x1024 .f32) (W : FVec Ideal S1024x1024 .bf16)
    (X : Fin 1024 → EReal) (G : Fin 1024 → EReal) (w : Fin 1024 → Fin 3840 → EReal) (r : Fin 256) (e : Fin 1024) (f : Fin 3840)
    (hx : ∀ k, x (ix2 r k) = X k) (hg : ∀ k, g (ix2 0 k) = G k) (hW : ∀ k, W (ix2 k e) = w k f) :
    projBlk (normTile x g) W (ix2 r e) = proj X G w f := by
  rw [projBlk_at, proj]
  refine Finset.sum_congr rfl fun k _ => ?_
  rw [hW]
  congr 1
  refine (rmsBlk_at x g r k).trans ?_
  simp only [hx, hg]

/-- The query, key and value projection of a sub-tile's rows. -/
theorem normQkv_at (x : FVec Ideal S256x1024 .f32) (g : FVec Ideal S1x1024 .f32) (W : FVec Ideal S1024x768 .bf16)
    (X : Fin 1024 → EReal) (G : Fin 1024 → EReal) (w : Fin 1024 → Fin 3840 → EReal) (r : Fin 256) (e : Fin 768) (f : Fin 3840)
    (hx : ∀ k, x (ix2 r k) = X k) (hg : ∀ k, g (ix2 0 k) = G k) (hW : ∀ k, W (ix2 k e) = w k f) :
    qkvBlk (normTile x g) W (ix2 r e) = proj X G w f := by
  rw [qkvBlk_at, proj]
  refine Finset.sum_congr rfl fun k _ => ?_
  rw [hW]
  congr 1
  refine (rmsBlk_at x g r k).trans ?_
  simp only [hx, hg]

end Cert.KernelIdeal.Value
end
-- ==== Proof.MixSub.lean ====
module

public import proofs.«01_k».proof.Proof.MixGm

@[expose] public section

set_option maxRecDepth 16384

noncomputable section

namespace Cert.KernelIdeal.Value

open Cert.KernelIdeal Cert.KernelIdeal.Gen Idealize.ShloMosaic Idealize.ShloMosaic.TcCoe Idealize.SL.Sem
open Cert.Spec

/-- A sub-tile of blocks `n` and `n'`: row `a` of block `b` is the mixer's. -/
theorem mixTile_at (X : Fin 2048 → Fin 1024 → EReal) (G : Fin 1024 → EReal) (W : Fin 1024 → Fin 3840 → EReal) (S : Fin 8 → EReal) (LG LB : Fin 512 → EReal)
    (WS : Fin 4 → Fin 128 → Fin 128 → EReal) (BS : Fin 4 → Fin 128 → EReal) (WA WB : Fin 512 → Fin 1024 → EReal) (WO : Fin 1024 → Fin 1024 → EReal)
    (G' : Fin 1024 → EReal) (fG : ∀ k, Fin' (G k)) (fW : ∀ k (e : Fin 3840), e.val < 640 → Fin' (W k e)) (fS : ∀ h, S h < ⊤)
    (n n' : Fin 16) (hn : n'.val = n.val + 1)
    (x : FVec Ideal S256x1024 .f32) (g : FVec Ideal S1x1024 .f32) (wq : FVec Ideal S1024x768 .bf16) (wz wga wgb : FVec Ideal S1024x1024 .bf16)
    (s0 s1 : FVec Ideal S1x512 .f32) (lg lb : FVec Ideal S1x512 .f32) (ws : Fin 4 → FVec Ideal S1x128x128 .f32)
    (bs : Fin 4 → FVec Ideal S128x1 .f32) (wa wb : FVec Ideal S512x1024 .bf16) (wo : FVec Ideal S1024x1024 .bf16) (g' : FVec Ideal S1x1024 .f32)
    (pk : FVec Ideal S128x256 .bf16) (pv : FVec Ideal S128x128 .bf16) (mask : IVec S256x512 1)
    (hx : ∀ (r : Fin 256) (k : Fin 1024), x (ix2 r k) = X ⟨n.val * 128 + r.val, by omega⟩ k) (hg : ∀ k, g (ix2 0 k) = G k)
    (hwq : ∀ k (e : Fin 768), wq (ix2 k e) = W k ⟨e.val, by omega⟩) (hwz : ∀ k (e : Fin 1024), wz (ix2 k e) = W k ⟨768 + e.val, by omega⟩)
    (hwga : ∀ k (e : Fin 1024), wga (ix2 k e) = W k ⟨1792 + e.val, by omega⟩) (hwgb : ∀ k (e : Fin 1024), wgb (ix2 k e) = W k ⟨2816 + e.val, by omega⟩)
    (h0 : ∀ R : Fin 512, s0 (ix2 0 R) = S ⟨R.val / 128, by omega⟩) (h1 : ∀ R : Fin 512, s1 (ix2 0 R) = S ⟨4 + R.val / 128, by omega⟩)
    (hlg : ∀ k, lg (ix2 0 k) = LG k) (hlb : ∀ k, lb (ix2 0 k) = LB k) (hws : ∀ q t s, ws q (ix3 0 t s) = WS q t s)
    (hbs : ∀ q t, bs q (ix2 t 0) = BS q t) (hwa : ∀ f k, wa (ix2 f k) = WA f k) (hwb : ∀ f k, wb (ix2 f k) = WB f k)
    (hwo : ∀ f k, wo (ix2 f k) = WO f k) (hg' : ∀ k, g' (ix2 0 k) = G' k)
    (hpk : ∀ (J : Fin 128) (y : Fin 256), pk (ix2 J y) = keys (fun p => proj (X p) G W) n ⟨J.val, by omega⟩ ⟨y.val / 128 * 64 + y.val % 64, by omega⟩)
    (hpv : ∀ e J : Fin 128, pv (ix2 e J) = keys (fun p => proj (X p) G W) n ⟨J.val, by omega⟩ ⟨128 + e.val, by omega⟩)
    (hm : ∀ (J : Fin 256) (R : Fin 512), mask (ix2 J R) = valid n.val ⟨R.val % 128, by omega⟩ J)
    (b : Fin 16) (a : Fin 128) (i : Fin 2) (r : Fin 256) (d : Fin 1024) (hb : b.val = n.val + i.val) (hr : r.val = i.val * 128 + a.val) :
    mixTile x g wq wz wga wgb s0 s1 lg lb (ws 0) (ws 1) (ws 2) (ws 3) (bs 0) (bs 1) (bs 2) (bs 3) wa wb wo g' pk pv mask (ix2 r d)
      = mixer X G W S LG LB WS BS WA WB WO G' b a d := by
  have hrow : (⟨n.val * 128 + r.val, by omega⟩ : Fin 2048) = rowOf b a := Fin.ext (by dsimp only [rowOf]; omega)
  have hfP : ∀ p (e : Fin 3840), e.val < 640 → Fin' ((fun p => proj (X p) G W) p e) := fun p e he => fin_proj _ _ _ fG e fun k => fW k e he
  have eA (k : Fin 1024) : attTile (qkvBlk (normTile x g) wq) pk pv mask s0 s1 wa (ix2 r k)
      = ∑ f : Fin 512, mixAtt (fun p => proj (X p) G W) S b a f * WA f k := by
    rw [attTile_at (fun p => proj (X p) G W) S n n' hfP fS hn (qkvBlk (normTile x g) wq)
      (fun r e => normQkv_at x g wq (X _) G W r e _ (hx r) hg (fun k => hwq k e)) pk pv mask s0 s1 hpk hpv hm h0 h1 wa b a r k (by omega)]
    simp only [hwa]
  have eB (k : Fin 1024) : gmTile (projBlk (normTile x g) wz) lg lb (ws 0) (ws 1) (ws 2) (ws 3) (bs 0) (bs 1) (bs 2) (bs 3) wb (ix2 r k)
      = ∑ f : Fin 512, mixGm (fun p => proj (X p) G W) LG LB WS BS b a f * WB f k := by
    rw [gmTile_at (fun p => proj (X p) G W) n n' hn (projBlk (normTile x g) wz)
      (fun r e => normProj_at x g wz (X _) G W r e _ (hx r) hg (fun k => hwz k e)) lg lb ws bs wb b a i r k hb hr]
    simp only [hwb, hlg, hlb, hws, hbs]
  have eGa (k : Fin 1024) : projBlk (normTile x g) wga (ix2 r k) = proj (X (rowOf b a)) G W ⟨1792 + k.val, by omega⟩ :=
    normProj_at x g wga _ G W r k _ (fun j => (hx r j).trans (congrArg (X · j) hrow)) hg (fun j => hwga j k)
  have eGb (k : Fin 1024) : projBlk (normTile x g) wgb (ix2 r k) = proj (X (rowOf b a)) G W ⟨2816 + k.val, by omega⟩ :=
    normProj_at x g wgb _ G W r k _ (fun j => (hx r j).trans (congrArg (X · j) hrow)) hg (fun j => hwgb j k)
  rw [mixer, merge]
  show x (ix2 r d) + rmsBlk _ g' (ix2 r d) = _
  rw [rmsBlk_at, hx, hrow]
  congr 1
  simp only [hg']
  congr 1
  funext e
  rw [mergeBlk_at]
  refine Finset.sum_congr rfl fun k _ => ?_
  rw [eA, eB, eGa, eGb, hwo]

end Cert.KernelIdeal.Value
end
-- ==== Proof.MixWin.lean ====
module

public import proofs.«01_k».proof.Proof.MixOpen
public import proofs.«01_k».proof.Proof.MixSub
public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- The windows' block indices at every grid point. -/
theorem idxIn : ∀ t : Fin cfg0.N, win0_0.index t = ![t.val / 2, t.val % 2, 0] ∧ win0_1.index t = ![0, 0] ∧ win0_2.index t = ![0, 0]
    ∧ win0_3.index t = ![0, 0] ∧ win0_4.index t = ![0, 0] ∧ win0_5.index t = ![0, 0] ∧ win0_6.index t = ![0, 0, 0] ∧ win0_7.index t = ![0, 0]
    ∧ win0_8.index t = ![0, 0] ∧ win0_9.index t = ![0, 0] ∧ win0_10.index t = ![0, 0] ∧ win0_11.index t = ![0, 0]
    ∧ win0_15.index t = ![t.val / 2, t.val % 2, 0] ∧ t.val < 64 :=
  (by decide +kernel : ∀ t : Fin grid0.N, _)

/-- The cast windows' block indices at every grid point. -/
theorem idxCast : ∀ t : Fin cfg0.N, win0_12.index t = ![t.val, 0] ∧ win0_13.index t = ![t.val, 0] ∧ win0_14.index t = ![t.val / 4, t.val % 4]
    ∧ win0_16.index t = ![t.val, 0] ∧ win0_17.index t = ![t.val, 0] ∧ win0_18.index t = ![t.val / 4, t.val % 4] ∧ t.val < 64 :=
  (by decide +kernel : ∀ t : Fin grid0.N, _)

/-- The grid's coordinates at every point, and the scratch slots used there. -/
theorem idxGrid : ∀ t : Fin cfg0.N, (grid0.coords t 1).val = t.val % 2 ∧ k0_off1 (grid0.coords t) = ![t.val % 2, 0, 0] ∧ k0_off2 (grid0.coords t) = ![t.val % 2, 0, 0]
    ∧ k0_off3 (grid0.coords t) = ![1 - t.val % 2, 0, 0] ∧ k0_off4 (grid0.coords t) = ![1 - t.val % 2, 0, 0] :=
  (by decide +kernel : ∀ t : Fin grid0.N, _)

/-- The rows of a point. -/
theorem blk0 (c : Dev nD) (t : Fin cfg0.N) (r : Fin 1024) (d : Fin 1024) (b : Fin 32) (p : Fin 2048) (hb : b.val = t.val / 2) (hp : p.val = t.val % 2 * 1024 + r.val) :
    (show FVec Ideal S1x1024x1024 .f32 from iblk m c 0 t) (ix3 0 r d) = (show FVec Ideal S32x2048x1024 .f32 from m ((c : Thread nD τ).loc main_arg0)) (ix3 b p d) := by
  blk_simp [iblk]
  entry_read
  pointwise
  blk_ext [idxIn t]

/-- The first gain. -/
theorem blk1 (c : Dev nD) (t : Fin cfg0.N) (d : Fin 1024) :
    (show FVec Ideal S1x1024 .f32 from iblk m c 1 t) (ix2 0 d) = (show FVec Ideal S1x1024 .f32 from m ((c : Thread nD τ).loc main_arg1)) (ix2 0 d) := by
  blk_simp [iblk]
  entry_read
  pointwise
  blk_ext [idxIn t]

/-- The input projection. -/
theorem blk2 (c : Dev nD) (t : Fin cfg0.N) (k : Fin 1024) (e : Fin 3840) :
    (show FVec Ideal S1024x3840 .bf16 from iblk m c 2 t) (ix2 k e) = (show FVec Ideal S1x1024x3840 .f32 from m ((c : Thread nD τ).loc main_arg2)) (ix3 0 k e) := by
  blk_simp [iblk]
  entry_read
  pointwise
  blk_ext [idxIn t]

/-- The sinks, one per query row of a stacked block. -/
theorem blk3 (c : Dev nD) (t : Fin cfg0.N) (h : Fin 2) (R : Fin 512) (q : Fin 8) (hq : q.val = h.val * 4 + R.val / 128) :
    (show FVec Ideal S2x512 .f32 from iblk m c 3 t) (ix2 h R) = (show FVec Ideal S1x8 .f32 from m ((c : Thread nD τ).loc main_arg3)) (ix2 0 q) := by
  blk_simp [iblk]
  entry_read
  pointwise
  blk_ext [idxIn t]

/-- The layer normalisation gain. -/
theorem blk4 (c : Dev nD) (t : Fin cfg0.N) (d : Fin 512) :
    (show FVec Ideal S1x512 .f32 from iblk m c 4 t) (ix2 0 d) = (show FVec Ideal S1x512 .f32 from m ((c : Thread nD τ).loc main_arg4)) (ix2 0 d) := by
  blk_simp [iblk]
  entry_read
  pointwise
  blk_ext [idxIn t]

/-- The layer normalisation shift. -/
theorem blk5 (c : Dev nD) (t : Fin cfg0.N) (d : Fin 512) :
    (show FVec Ideal S1x512 .f32 from iblk m c 5 t) (ix2 0 d) = (show FVec Ideal S1x512 .f32 from m ((c : Thread nD τ).loc main_arg5)) (ix2 0 d) := by
  blk_simp [iblk]
  entry_read
  pointwise
  blk_ext [idxIn t]

/-- The spatial weight. -/
theorem blk6 (c : Dev nD) (t : Fin cfg0.N) (g : Fin 4) (a b : Fin 128) :
    (show FVec Ideal S4x128x128 .f32 from iblk m c 6 t) (ix3 g a b) = (show FVec Ideal S1x4x128x128 .f32 from m ((c : Thread nD τ).loc main_arg6)) (ix4 0 g a b) := by
  blk_simp [iblk]
  entry_read
  pointwise
  blk_ext [idxIn t]

/-- The spatial shift. -/
theorem blk7 (c : Dev nD) (t : Fin cfg0.N) (a : Fin 128) (g : Fin 4) :
    (show FVec Ideal S128x4 .f32 from iblk m c 7 t) (ix2 a g) = (show FVec Ideal S1x4x128 .f32 from m ((c : Thread nD τ).loc main_arg7)) (ix3 0 g a) := by
  blk_simp [iblk]
  entry_read
  pointwise
  blk_ext [idxIn t]

/-- The attention branch weight. -/
theorem blk8 (c : Dev nD) (t : Fin cfg0.N) (f : Fin 512) (k : Fin 1024) :
    (show FVec Ideal S512x1024 .bf16 from iblk m c 8 t) (ix2 f k) = (show FVec Ideal S1x512x1024 .f32 from m ((c : Thread nD τ).loc main_arg8)) (ix3 0 f k) := by
  blk_simp [iblk]
  entry_read
  pointwise
  blk_ext [idxIn t]

/-- The gated branch weight. -/
theorem blk9 (c : Dev nD) (t : Fin cfg0.N) (f : Fin 512) (k : Fin 1024) :
    (show FVec Ideal S512x1024 .bf16 from iblk m c 9 t) (ix2 f k) = (show FVec Ideal S1x512x1024 .f32 from m ((c : Thread nD τ).loc main_arg9)) (ix3 0 f k) := by
  blk_simp [iblk]
  entry_read
  pointwise
  blk_ext [idxIn t]

/-- The output weight. -/
theorem blk10 (c : Dev nD) (t : Fin cfg0.N) (f : Fin 1024) (k : Fin 1024) :
    (show FVec Ideal S1024x1024 .bf16 from iblk m c 10 t) (ix2 f k) = (show FVec Ideal S1x1024x1024 .f32 from m ((c : Thread nD τ).loc main_arg10)) (ix3 0 f k) := by
  blk_simp [iblk]
  entry_read
  pointwise
  blk_ext [idxIn t]

/-- The last gain. -/
theorem blk11 (c : Dev nD) (t : Fin cfg0.N) (d : Fin 1024) :
    (show FVec Ideal S1x1024 .f32 from iblk m c 11 t) (ix2 0 d) = (show FVec Ideal S1x1024 .f32 from m ((c : Thread nD τ).loc main_arg11)) (ix2 0 d) := by
  blk_simp [iblk]
  entry_read
  pointwise
  blk_ext [idxIn t]

end Cert.KernelIdeal.Value
end
-- ==== Proof.MixPoint.lean ====
module

public import proofs.«01_k».proof.Proof.MixWin

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- A sequence of the activations. -/
def aX (c : Dev nD) (b : Fin 32) (p : Fin 2048) (k : Fin 1024) : EReal := (show FVec Ideal S32x2048x1024 .f32 from m ((c : Thread nD τ).loc main_arg0)) (ix3 b p k)
/-- The first gain. -/
def aG (c : Dev nD) (k : Fin 1024) : EReal := (show FVec Ideal S1x1024 .f32 from m ((c : Thread nD τ).loc main_arg1)) (ix2 0 k)
/-- The input projection. -/
def aW (c : Dev nD) (k : Fin 1024) (e : Fin 3840) : EReal := (show FVec Ideal S1x1024x3840 .f32 from m ((c : Thread nD τ).loc main_arg2)) (ix3 0 k e)
/-- The sinks. -/
def aS (c : Dev nD) (h : Fin 8) : EReal := (show FVec Ideal S1x8 .f32 from m ((c : Thread nD τ).loc main_arg3)) (ix2 0 h)
/-- The layer normalisation gain. -/
def aLG (c : Dev nD) (k : Fin 512) : EReal := (show FVec Ideal S1x512 .f32 from m ((c : Thread nD τ).loc main_arg4)) (ix2 0 k)
/-- The layer normalisation shift. -/
def aLB (c : Dev nD) (k : Fin 512) : EReal := (show FVec Ideal S1x512 .f32 from m ((c : Thread nD τ).loc main_arg5)) (ix2 0 k)
/-- The spatial weight. -/
def aWS (c : Dev nD) (g : Fin 4) (t s : Fin 128) : EReal := (show FVec Ideal S1x4x128x128 .f32 from m ((c : Thread nD τ).loc main_arg6)) (ix4 0 g t s)
/-- The spatial shift. -/
def aBS (c : Dev nD) (g : Fin 4) (t : Fin 128) : EReal := (show FVec Ideal S1x4x128 .f32 from m ((c : Thread nD τ).loc main_arg7)) (ix3 0 g t)
/-- The attention branch weight. -/
def aWA (c : Dev nD) (f : Fin 512) (k : Fin 1024) : EReal := (show FVec Ideal S1x512x1024 .f32 from m ((c : Thread nD τ).loc main_arg8)) (ix3 0 f k)
/-- The gated branch weight. -/
def aWB (c : Dev nD) (f : Fin 512) (k : Fin 1024) : EReal := (show FVec Ideal S1x512x1024 .f32 from m ((c : Thread nD τ).loc main_arg9)) (ix3 0 f k)
/-- The output weight. -/
def aWO (c : Dev nD) (f k : Fin 1024) : EReal := (show FVec Ideal S1x1024x1024 .f32 from m ((c : Thread nD τ).loc main_arg10)) (ix3 0 f k)
/-- The last gain. -/
def aH (c : Dev nD) (k : Fin 1024) : EReal := (show FVec Ideal S1x1024 .f32 from m ((c : Thread nD τ).loc main_arg11)) (ix2 0 k)
/-- The projection of a sequence. -/
def aP (c : Dev nD) (b : Fin 32) (p : Fin 2048) (e : Fin 3840) : EReal := proj (aX m c b p) (aG m c) (aW m c) e

/-- What makes the scores finite and leaves the denominators above zero. -/
structure Finite (c : Dev nD) : Prop where
  /-- The first gain. -/
  fG : ∀ k, Fin' (aG m c k)
  /-- The input projection's columns of queries and keys. -/
  fW : ∀ k (e : Fin 3840), e.val < 640 → Fin' (aW m c k e)
  /-- The sinks. -/
  fS : ∀ h, aS m c h < ⊤

/-- A load of some columns of the input projection. -/
theorem ldW (c : Dev nD) (t : Fin cfg0.N) (o w : Nat) (inb) (k : Fin 1024) (e : Fin w) (f : Fin 3840) (hf : f.val = o + e.val) :
    (View.ld (iblk m c 2 t : Vec Ideal S1024x3840 .bf16) (Rect.unit ![0, o] ![1024, w] inb) : Vec Ideal ⟨2, ![1024, w]⟩ .bf16) (ix2 k e) = aW m c k f := by
  refine (View.ld_unit_apply_of _ _ _ _ _ (ix2 k f) fun a => ?_).trans (blk2 m c t k f)
  fin_cases a
  · exact (Nat.zero_add _).symm
  · exact hf

/-- A load of one row of sinks. -/
theorem ldS (c : Dev nD) (t : Fin cfg0.N) (h : Fin 2) (o : Nat) (ho : h.val = o) (inb) (R : Fin 512) (q : Fin 8) (hq : q.val = h.val * 4 + R.val / 128) :
    (View.ld (iblk m c 3 t : Vec Ideal S2x512 .f32) (Rect.unit ![o, 0] ![1, 512] inb) : Vec Ideal S1x512 .f32) (ix2 0 R) = aS m c q := by
  refine (View.ld_unit_apply_of _ _ _ _ _ (ix2 h R) fun a => ?_).trans (blk3 m c t h R q hq)
  fin_cases a
  · exact ho.trans (Nat.add_zero _).symm
  · exact (Nat.zero_add _).symm

/-- A load of one group's spatial weight. -/
theorem ldWS (c : Dev nD) (t : Fin cfg0.N) (g : Fin 4) (o : Nat) (ho : g.val = o) (inb) (a s : Fin 128) :
    (View.ld (iblk m c 6 t : Vec Ideal S4x128x128 .f32) (Rect.unit ![o, 0, 0] ![1, 128, 128] inb) : Vec Ideal S1x128x128 .f32) (ix3 0 a s) = aWS m c g a s := by
  refine (View.ld_unit_apply_of _ _ _ _ _ (ix3 g a s) fun a => ?_).trans (blk6 m c t g a s)
  fin_cases a
  · exact ho.trans (Nat.add_zero _).symm
  · exact (Nat.zero_add _).symm
  · exact (Nat.zero_add _).symm

/-- A load of one group's spatial shift. -/
theorem ldBS (c : Dev nD) (t : Fin cfg0.N) (g : Fin 4) (o : Nat) (ho : g.val = o) (inb) (a : Fin 128) :
    (View.ld (iblk m c 7 t : Vec Ideal S128x4 .f32) (Rect.unit ![0, o] ![128, 1] inb) : Vec Ideal S128x1 .f32) (ix2 a 0) = aBS m c g a := by
  refine (View.ld_unit_apply_of _ _ _ _ _ (ix2 a g) fun a => ?_).trans (blk7 m c t a g)
  fin_cases a
  · exact (Nat.zero_add _).symm
  · exact ho.trans (Nat.add_zero _).symm

/-- A load of some rows of the point's activations. -/
theorem ldX (c : Dev nD) (t : Fin cfg0.N) (b : Fin 32) (hb : b.val = t.val / 2) (o : Nat) (inb) (r : Fin 256) (k : Fin 1024) (p : Fin 2048)
    (hp : p.val = t.val % 2 * 1024 + o + r.val) :
    (View.ld (iblk m c 0 t : Vec Ideal S1x1024x1024 .f32) (Rect.unit ![0, o, 0] ![1, 256, 1024] inb) : Vec Ideal S1x256x1024 .f32) (ix3 0 r k) = aX m c b p k := by
  have h1 : o + 256 ≤ 1024 := inb 1
  refine (View.ld_unit_apply_of _ _ _ _ _ (ix3 0 ⟨o + r.val, by omega⟩ k) fun a => ?_).trans (blk0 m c t ⟨o + r.val, by omega⟩ k b p hb (by dsimp only; omega))
  fin_cases a
  · rfl
  · rfl
  · exact (Nat.zero_add _).symm

/-- The projection of a sub-tile's rows. -/
theorem pointQkv_at (c : Dev nD) (t : Fin cfg0.N) (b : Fin 32) (n n' : Fin 16) (hn : n'.val = n.val + 1) (x : FVec Ideal S1x256x1024 .f32)
    (hx : ∀ (r : Fin 256) (k : Fin 1024), x (ix3 0 r k) = aX m c b ⟨n.val * 128 + r.val, by omega⟩ k) (r : Fin 256) (e : Fin 768) :
    pointQkv m c t x (ix2 r e) = aP m c b ⟨n.val * 128 + r.val, by omega⟩ ⟨e.val, by omega⟩ := by
  unfold pointQkv qkvTile
  refine normQkv_at _ _ _ (aX m c b _) (aG m c) (aW m c) r e _ (fun k => ?_) (fun k => blk1 m c t k) (fun k => ldW m c t 0 768 _ k e _ (Nat.zero_add _).symm)
  exact Eq.trans (by pointwise [rows]) (hx r k)

/-- Four spatial weights, one by one. -/
theorem four (w : Fin 4 → FVec Ideal S1x128x128 .f32) (A : Fin 4 → Fin 128 → Fin 128 → EReal) (h0 : ∀ a s, w 0 (ix3 0 a s) = A 0 a s)
    (h1 : ∀ a s, w 1 (ix3 0 a s) = A 1 a s) (h2 : ∀ a s, w 2 (ix3 0 a s) = A 2 a s) (h3 : ∀ a s, w 3 (ix3 0 a s) = A 3 a s) :
    ∀ q a s, w q (ix3 0 a s) = A q a s := by
  intro q
  fin_cases q
  · exact h0
  · exact h1
  · exact h2
  · exact h3

/-- Four spatial shifts, one by one. -/
theorem four1 (w : Fin 4 → FVec Ideal S128x1 .f32) (A : Fin 4 → Fin 128 → EReal) (h0 : ∀ a, w 0 (ix2 a 0) = A 0 a)
    (h1 : ∀ a, w 1 (ix2 a 0) = A 1 a) (h2 : ∀ a, w 2 (ix2 a 0) = A 2 a) (h3 : ∀ a, w 3 (ix2 a 0) = A 3 a) :
    ∀ q a, w q (ix2 a 0) = A q a := by
  intro q
  fin_cases q
  · exact h0
  · exact h1
  · exact h2
  · exact h3

/-- A stored entry. -/
theorem cast_at (z : FVec Ideal S256x1024 .f32) (r : Fin 256) (d : Fin 1024) :
    shapeCast S1x256x1024 z shapeCasts_S256x1024_S1x256x1024 (ix3 0 r d) = z (ix2 r d) := by pointwise

set_option maxHeartbeats 1600000 in
/-- What is stored for a sub-tile of blocks `n` and `n'`. -/
theorem pointTile_at (c : Dev nD) (hf : Finite m c) (t : Fin cfg0.N) (b : Fin 32) (n n' : Fin 16) (hn : n'.val = n.val + 1) (x : FVec Ideal S1x256x1024 .f32)
    (hx : ∀ (r : Fin 256) (k : Fin 1024), x (ix3 0 r k) = aX m c b ⟨n.val * 128 + r.val, by omega⟩ k)
    (pk : FVec Ideal S128x256 .bf16) (pv : FVec Ideal S128x128 .bf16) (mask : IVec S256x512 1)
    (hpk : ∀ (J : Fin 128) (y : Fin 256), pk (ix2 J y) = keys (aP m c b) n ⟨J.val, by omega⟩ ⟨y.val / 128 * 64 + y.val % 64, by omega⟩)
    (hpv : ∀ e J : Fin 128, pv (ix2 e J) = keys (aP m c b) n ⟨J.val, by omega⟩ ⟨128 + e.val, by omega⟩)
    (hm : ∀ (J : Fin 256) (R : Fin 512), mask (ix2 J R) = valid n.val ⟨R.val % 128, by omega⟩ J)
    (q : Fin 16) (a : Fin 128) (i : Fin 2) (r : Fin 256) (d : Fin 1024) (hq : q.val = n.val + i.val) (hr : r.val = i.val * 128 + a.val) :
    pointTile m c t x pk pv mask (ix3 0 r d)
      = mixer (aX m c b) (aG m c) (aW m c) (aS m c) (aLG m c) (aLB m c) (aWS m c) (aBS m c) (aWA m c) (aWB m c) (aWO m c) (aH m c) q a d := by
  unfold pointTile storeTile
  refine (cast_at _ r d).trans ?_
  have hX : ∀ (r : Fin 256) (k : Fin 1024), rows x (ix2 r k) = aX m c b ⟨n.val * 128 + r.val, by omega⟩ k :=
    fun r k => Eq.trans (by pointwise [rows]) (hx r k)
  have hq0 := fun k (e : Fin 768) => ldW m c t 0 768 inb_S1024x3840_S1024x768_0_0 k e ⟨e.val, by omega⟩ (Nat.zero_add _).symm
  have hq1 := fun k (e : Fin 1024) => ldW m c t 768 1024 inb_S1024x3840_S1024x1024_0_768 k e ⟨768 + e.val, by omega⟩ rfl
  have hq2 := fun k (e : Fin 1024) => ldW m c t 1792 1024 inb_S1024x3840_S1024x1024_0_1792 k e ⟨1792 + e.val, by omega⟩ rfl
  have hq3 := fun k (e : Fin 1024) => ldW m c t 2816 1024 inb_S1024x3840_S1024x1024_0_2816 k e ⟨2816 + e.val, by omega⟩ rfl
  have hs0 := fun R : Fin 512 => ldS m c t 0 0 rfl inb_S2x512_S1x512_0_0 R ⟨R.val / 128, by omega⟩ (Nat.zero_add _).symm
  have hs1 := fun R : Fin 512 => ldS m c t 1 1 rfl inb_S2x512_S1x512_1_0 R ⟨4 + R.val / 128, by omega⟩ rfl
  have hw0 := ldWS m c t 0 0 rfl inb_S4x128x128_S1x128x128_0_0_0
  have hw1 := ldWS m c t 1 1 rfl inb_S4x128x128_S1x128x128_1_0_0
  have hw2 := ldWS m c t 2 2 rfl inb_S4x128x128_S1x128x128_2_0_0
  have hw3 := ldWS m c t 3 3 rfl inb_S4x128x128_S1x128x128_3_0_0
  have hw := four ![View.ld (iblk m c 6 t) (Rect.unit ![0, 0, 0] ![1, 128, 128] inb_S4x128x128_S1x128x128_0_0_0),
      View.ld (iblk m c 6 t) (Rect.unit ![1, 0, 0] ![1, 128, 128] inb_S4x128x128_S1x128x128_1_0_0),
      View.ld (iblk m c 6 t) (Rect.unit ![2, 0, 0] ![1, 128, 128] inb_S4x128x128_S1x128x128_2_0_0),
      View.ld (iblk m c 6 t) (Rect.unit ![3, 0, 0] ![1, 128, 128] inb_S4x128x128_S1x128x128_3_0_0)] (aWS m c) hw0 hw1 hw2 hw3
  have hb0 := ldBS m c t 0 0 rfl inb_S128x4_S128x1_0_0
  have hb1 := ldBS m c t 1 1 rfl inb_S128x4_S128x1_0_1
  have hb2 := ldBS m c t 2 2 rfl inb_S128x4_S128x1_0_2
  have hb3 := ldBS m c t 3 3 rfl inb_S128x4_S128x1_0_3
  have hb := four1 ![View.ld (iblk m c 7 t) (Rect.unit ![0, 0] ![128, 1] inb_S128x4_S128x1_0_0),
      View.ld (iblk m c 7 t) (Rect.unit ![0, 1] ![128, 1] inb_S128x4_S128x1_0_1),
      View.ld (iblk m c 7 t) (Rect.unit ![0, 2] ![128, 1] inb_S128x4_S128x1_0_2),
      View.ld (iblk m c 7 t) (Rect.unit ![0, 3] ![128, 1] inb_S128x4_S128x1_0_3)] (aBS m c) hb0 hb1 hb2 hb3
  have key := fun (ws : Fin 4 → FVec Ideal S1x128x128 .f32) (bs : Fin 4 → FVec Ideal S128x1 .f32) hws hbs =>
    mixTile_at (aX m c b) (aG m c) (aW m c) (aS m c) (aLG m c) (aLB m c) (aWS m c) (aBS m c) (aWA m c) (aWB m c) (aWO m c) (aH m c)
      hf.fG hf.fW hf.fS n n' hn (rows x) (iblk m c 1 t) (View.ld (iblk m c 2 t) (Rect.unit ![0, 0] ![1024, 768] inb_S1024x3840_S1024x768_0_0))
      (View.ld (iblk m c 2 t) (Rect.unit ![0, 768] ![1024, 1024] inb_S1024x3840_S1024x1024_0_768))
      (View.ld (iblk m c 2 t) (Rect.unit ![0, 1792] ![1024, 1024] inb_S1024x3840_S1024x1024_0_1792))
      (View.ld (iblk m c 2 t) (Rect.unit ![0, 2816] ![1024, 1024] inb_S1024x3840_S1024x1024_0_2816))
      (View.ld (iblk m c 3 t) (Rect.unit ![0, 0] ![1, 512] inb_S2x512_S1x512_0_0))
      (View.ld (iblk m c 3 t) (Rect.unit ![1, 0] ![1, 512] inb_S2x512_S1x512_1_0))
      (iblk m c 4 t) (iblk m c 5 t) ws bs (iblk m c 8 t) (iblk m c 9 t) (iblk m c 10 t) (iblk m c 11 t) pk pv mask hX (blk1 m c t) hq0 hq1 hq2 hq3 hs0 hs1
      (blk4 m c t) (blk5 m c t) hws hbs (blk8 m c t) (blk9 m c t) (blk10 m c t) (blk11 m c t) hpk hpv hm q a i r d hq hr
  exact key
    ![View.ld (iblk m c 6 t) (Rect.unit ![0, 0, 0] ![1, 128, 128] inb_S4x128x128_S1x128x128_0_0_0),
      View.ld (iblk m c 6 t) (Rect.unit ![1, 0, 0] ![1, 128, 128] inb_S4x128x128_S1x128x128_1_0_0),
      View.ld (iblk m c 6 t) (Rect.unit ![2, 0, 0] ![1, 128, 128] inb_S4x128x128_S1x128x128_2_0_0),
      View.ld (iblk m c 6 t) (Rect.unit ![3, 0, 0] ![1, 128, 128] inb_S4x128x128_S1x128x128_3_0_0)]
    ![View.ld (iblk m c 7 t) (Rect.unit ![0, 0] ![128, 1] inb_S128x4_S128x1_0_0),
      View.ld (iblk m c 7 t) (Rect.unit ![0, 1] ![128, 1] inb_S128x4_S128x1_0_1),
      View.ld (iblk m c 7 t) (Rect.unit ![0, 2] ![128, 1] inb_S128x4_S128x1_0_2),
      View.ld (iblk m c 7 t) (Rect.unit ![0, 3] ![128, 1] inb_S128x4_S128x1_0_3)]
    hw
    hb

/-- The keys a sub-tile of blocks `n` and `n'` leaves are the old ones of block `q`, the next. -/
theorem leftK_at (c : Dev nD) (t : Fin cfg0.N) (b : Fin 32) (n n' q : Fin 16) (hn : n'.val = n.val + 1) (hq : q.val = n.val + 2) (x : FVec Ideal S1x256x1024 .f32)
    (hx : ∀ (r : Fin 256) (k : Fin 1024), x (ix3 0 r k) = aX m c b ⟨n.val * 128 + r.val, by omega⟩ k) (J : Fin 128) (y : Fin 256) :
    leftK (pointQkv m c t x) (ix2 J y) = keys (aP m c b) q ⟨J.val, by omega⟩ ⟨y.val / 128 * 64 + y.val % 64, by omega⟩ := by
  refine Eq.trans (b := kBlk (pointQkv m c t x) (ix2 ⟨128 + J.val, by omega⟩ y)) (by pointwise [leftK]) ?_
  exact kBlk_keys (aP m c b) n n' hn _ (pointQkv_at m c t b n n' hn x hx) q _ _ y (by dsimp only; omega) _ rfl

/-- The values a sub-tile of blocks `n` and `n'` leaves are the old ones of block `q`, the next. -/
theorem leftV_at (c : Dev nD) (t : Fin cfg0.N) (b : Fin 32) (n n' q : Fin 16) (hn : n'.val = n.val + 1) (hq : q.val = n.val + 2) (x : FVec Ideal S1x256x1024 .f32)
    (hx : ∀ (r : Fin 256) (k : Fin 1024), x (ix3 0 r k) = aX m c b ⟨n.val * 128 + r.val, by omega⟩ k) (e J : Fin 128) :
    leftV (pointQkv m c t x) (ix2 e J) = keys (aP m c b) q ⟨J.val, by omega⟩ ⟨128 + e.val, by omega⟩ := by
  refine Eq.trans (b := vBlk (pointQkv m c t x) (ix2 e ⟨128 + J.val, by omega⟩)) (by pointwise [leftV]) ?_
  exact vBlk_keys (aP m c b) n n' hn _ (pointQkv_at m c t b n n' hn x hx) q _ _ e (by dsimp only; omega) _ rfl

end Cert.KernelIdeal.Value
end
-- ==== Proof.MixValue.lean ====
module

public import proofs.«01_k».proof.Proof.MixPoint
public import proofs.«01_k».proof.Proof.MixReference
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- Old keys without their slot axis. -/
theorem dropK (z : FVec Ideal S1x128x256 .bf16) (J : Fin 128) (y : Fin 256) : shapeCast S128x256 z shapeCasts_S1x128x256_S128x256 (ix2 J y) = z (ix3 0 J y) := by
  pointwise

/-- Old values without their slot axis. -/
theorem dropV (z : FVec Ideal S1x128x128 .bf16) (J y : Fin 128) : shapeCast S128x128 z shapeCasts_S1x128x128_S128x128 (ix2 J y) = z (ix3 0 J y) := by
  pointwise

/-- Old keys with a slot axis. -/
theorem addK (z : FVec Ideal S128x256 .bf16) (J : Fin 128) (y : Fin 256) : shapeCast S1x128x256 z shapeCasts_S128x256_S1x128x256 (ix3 0 J y) = z (ix2 J y) := by
  pointwise

/-- Old values with a slot axis. -/
theorem addV (z : FVec Ideal S128x128 .bf16) (J y : Fin 128) : shapeCast S1x128x128 z shapeCasts_S128x128_S1x128x128 (ix3 0 J y) = z (ix2 J y) := by
  pointwise

/-- The keys read at a point, of the scratch's. -/
theorem readK_at (t : Fin cfg0.N) (k : Vec Ideal S2x128x256 .bf16) (h : Fin 2) (hh : h.val = t.val % 2) (J : Fin 128) (y : Fin 256) :
    readK t k (ix2 J y) = k (ix3 h J y) := by
  unfold readK
  refine (dropK _ J y).trans ?_
  refine View.ld_unit_apply_of _ _ _ _ _ _ fun a => ?_
  refine Eq.trans ?_ (congrArg (· + _) (congrFun (idxGrid t).2.1 a)).symm
  fin_cases a
  · exact hh
  · exact (Nat.zero_add _).symm
  · exact (Nat.zero_add _).symm

/-- The values read at a point, of the scratch's. -/
theorem readV_at (t : Fin cfg0.N) (k : Vec Ideal S2x128x128 .bf16) (h : Fin 2) (hh : h.val = t.val % 2) (e J : Fin 128) :
    readV t k (ix2 e J) = k (ix3 h e J) := by
  unfold readV
  refine (dropV _ e J).trans ?_
  refine View.ld_unit_apply_of _ _ _ _ _ _ fun a => ?_
  refine Eq.trans ?_ (congrArg (· + _) (congrFun (idxGrid t).2.2.1 a)).symm
  fin_cases a
  · exact hh
  · exact (Nat.zero_add _).symm
  · exact (Nat.zero_add _).symm

/-- The zeroed scratch's keys are those before a sequence. -/
theorem zeroK (t : Fin cfg0.N) (P : Fin 2048 → Fin 3840 → EReal) (n : Fin 16) (hn : n.val = 0) (J : Fin 128) (y : Fin 256) (e : Fin 256) :
    readK t (k0_pay2 : FVec Ideal S2x128x256 .bf16) (ix2 J y) = keys P n ⟨J.val, by omega⟩ e := by
  rw [keys_zero _ _ _ _ (by dsimp only; omega)]
  rw [readK_at t _ ⟨t.val % 2, Nat.mod_lt _ (by decide)⟩ rfl]
  pointwise [k0_pay2]

/-- The zeroed scratch's values are those before a sequence. -/
theorem zeroV (t : Fin cfg0.N) (P : Fin 2048 → Fin 3840 → EReal) (n : Fin 16) (hn : n.val = 0) (e J : Fin 128) (f : Fin 256) :
    readV t (k0_pay3 : FVec Ideal S2x128x128 .bf16) (ix2 e J) = keys P n ⟨J.val, by omega⟩ f := by
  rw [keys_zero _ _ _ _ (by dsimp only; omega)]
  rw [readV_at t _ ⟨t.val % 2, Nat.mod_lt _ (by decide)⟩ rfl]
  pointwise [k0_pay3]

/-- The keys a first point keeps are those its last sub-tile leaves. -/
theorem keptK_at (c : Dev nD) (t : Fin cfg0.N) (h : Fin 2) (hh : h.val = 1 - t.val % 2) (J : Fin 128) (y : Fin 256) :
    keptK m c t (ix3 h J y) = leftK (pointQkv m c t (x3 m c t)) (ix2 J y) := by
  unfold keptK
  have e : (Rect.unit (k0_off3 (grid0.coords t)) ![1, 128, 256] (k0_off3_inb (grid0.coords t))).emb (ix3 0 J y) = (ix3 h J y : S2x128x256.Idx) := by
    funext a
    refine Fin.ext ?_
    refine (Rect.idx_unit_val _ _ _ _ a).trans ?_
    refine (congrArg (· + _) (congrFun (idxGrid t).2.2.2.1 a)).trans ?_
    fin_cases a
    · exact hh.symm
    · exact Nat.zero_add _
    · exact Nat.zero_add _
  rw [← e, View.canon_cons_emb]
  exact addK _ J y

/-- The values a first point keeps are those its last sub-tile leaves. -/
theorem keptV_at (c : Dev nD) (t : Fin cfg0.N) (h : Fin 2) (hh : h.val = 1 - t.val % 2) (f J : Fin 128) :
    keptV m c t (ix3 h f J) = leftV (pointQkv m c t (x3 m c t)) (ix2 f J) := by
  unfold keptV
  have e : (Rect.unit (k0_off4 (grid0.coords t)) ![1, 128, 128] (k0_off4_inb (grid0.coords t))).emb (ix3 0 f J) = (ix3 h f J : S2x128x128.Idx) := by
    funext a
    refine Fin.ext ?_
    refine (Rect.idx_unit_val _ _ _ _ a).trans ?_
    refine (congrArg (· + _) (congrFun (idxGrid t).2.2.2.2 a)).trans ?_
    fin_cases a
    · exact hh.symm
    · exact Nat.zero_add _
    · exact Nat.zero_add _
  rw [← e, View.canon_cons_emb]
  exact addV _ f J

/-- The keys a second point reads are those the first one's last sub-tile leaves. -/
theorem passK (c : Dev nD) (t u : Fin cfg0.N) (ht : ¬t.val % 2 = 0) (hu : u.val = t.val - 1) (J : Fin 128) (y : Fin 256) :
    readK t (oldK m c t) (ix2 J y) = leftK (pointQkv m c u (x3 m c u)) (ix2 J y) := by
  obtain ⟨u, hul⟩ := u
  obtain rfl : u = t.val - 1 := hu
  have hk : oldK m c t = keptK m c ⟨t.val - 1, hul⟩ := by
    unfold oldK
    rw [Idealize.ShloMosaic.read_unread_whole]
    exact keepK m c ⟨t.val - 1, hul⟩ (by dsimp only; omega) _ rfl
  rw [readK_at t _ 1 (by show 1 = _; omega), hk]
  exact keptK_at m c ⟨t.val - 1, hul⟩ 1 (by show 1 = 1 - (t.val - 1) % 2; omega) J y

/-- The values a second point reads are those the first one's last sub-tile leaves. -/
theorem passV (c : Dev nD) (t u : Fin cfg0.N) (ht : ¬t.val % 2 = 0) (hu : u.val = t.val - 1) (e J : Fin 128) :
    readV t (oldV m c t) (ix2 e J) = leftV (pointQkv m c u (x3 m c u)) (ix2 e J) := by
  obtain ⟨u, hul⟩ := u
  obtain rfl : u = t.val - 1 := hu
  have hk : oldV m c t = keptV m c ⟨t.val - 1, hul⟩ := by
    unfold oldV
    rw [Idealize.ShloMosaic.read_unread_whole]
    exact keepV m c ⟨t.val - 1, hul⟩ (by dsimp only; omega) _ rfl
  rw [readV_at t _ 1 (by show 1 = _; omega), hk]
  exact keptV_at m c ⟨t.val - 1, hul⟩ 1 (by show 1 = 1 - (t.val - 1) % 2; omega) e J

/-- The rows of a point's sub-tiles. -/
theorem x_rows (c : Dev nD) (t : Fin cfg0.N) (b : Fin 32) (hb : b.val = t.val / 2) (o : Nat) (inb) (n : Fin 16) (hn : n.val * 128 = t.val % 2 * 1024 + o)
    (hn' : n.val < 15) (r : Fin 256) (k : Fin 1024) :
    (View.ld (iblk m c 0 t : Vec Ideal S1x1024x1024 .f32) (Rect.unit ![0, o, 0] ![1, 256, 1024] inb) : Vec Ideal S1x256x1024 .f32) (ix3 0 r k)
      = aX m c b ⟨n.val * 128 + r.val, by omega⟩ k :=
  ldX m c t b hb o inb r k _ (by dsimp only; omega)

/-- The mask of a sub-tile with a block before it. -/
theorem mask_band (n : Fin 16) (hn : 0 < n.val) (J : Fin 256) (R : Fin 512) : mask4 bandBlk (ix2 J R) = valid n.val ⟨R.val % 128, by omega⟩ J := by
  rw [mask4_at, bandBlk_at n hn]

/-- The mask of a point's first sub-tile. -/
theorem mask_first (t : Fin cfg0.N) (n : Fin 16) (hn : n.val = t.val % 2 * 8) (J : Fin 256) (R : Fin 512) :
    mask4 (firstBlk (Scalar.cmpi .sgt (BitVec.ofNat 32 (grid0.coords t 1).val) 0#32)) (ix2 J R) = valid n.val ⟨R.val % 128, by omega⟩ J := by
  rw [mask4_at, firstBlk_at n]
  rw [(idxGrid t).1]
  rcases Nat.mod_two_eq_zero_or_one t.val with h | h
  · rw [h, hn, h]; decide
  · rw [h, hn, h]; decide

/-- An index of a sub-tile. -/
theorem entry_eq (x : S1x256x1024.Idx) (d : Fin 1024) (h : d.val = (x 2).val) : x = ix3 0 (x 1) d := by
  funext j
  fin_cases j
  · exact Fin.ext (Nat.lt_one_iff.mp (x 0).isLt)
  · rfl
  · exact Fin.ext h.symm

/-- An index of a tile. -/
theorem entry_eq1 (x : S1x1024x1024.Idx) (d : Fin 1024) (h : d.val = (x 2).val) : x = ix3 0 (x 1) d := by
  funext j
  fin_cases j
  · exact Fin.ext (Nat.lt_one_iff.mp (x 0).isLt)
  · rfl
  · exact Fin.ext h.symm

/-- What a point stores, when its first sub-tile follows the block before. -/
theorem canonTile_at (c : Dev nD) (hf : Finite m c) (t : Fin cfg0.N) (b : Fin 32) (hb : b.val = t.val / 2) (n0 : Fin 16) (hn0 : n0.val = t.val % 2 * 8)
    (pk : FVec Ideal S128x256 .bf16) (pv : FVec Ideal S128x128 .bf16)
    (hpk : ∀ (J : Fin 128) (y : Fin 256), pk (ix2 J y) = keys (aP m c b) n0 ⟨J.val, by omega⟩ ⟨y.val / 128 * 64 + y.val % 64, by omega⟩)
    (hpv : ∀ e J : Fin 128, pv (ix2 e J) = keys (aP m c b) n0 ⟨J.val, by omega⟩ ⟨128 + e.val, by omega⟩)
    (r d : Fin 1024) (q : Fin 16) (a : Fin 128) (hq : q.val * 128 + a.val = t.val % 2 * 1024 + r.val) :
    canonTile m c t pk pv (ix3 0 r d)
      = mixer (aX m c b) (aG m c) (aW m c) (aS m c) (aLG m c) (aLB m c) (aWS m c) (aBS m c) (aWA m c) (aWB m c) (aWO m c) (aH m c) q a d := by
  have h2 : t.val % 2 < 2 := Nat.mod_lt _ (by decide)
  obtain ⟨n1, hn1⟩ : ∃ n : Fin 16, n.val = n0.val + 1 := ⟨⟨n0.val + 1, by omega⟩, rfl⟩
  obtain ⟨n2, hn2⟩ : ∃ n : Fin 16, n.val = n0.val + 2 := ⟨⟨n0.val + 2, by omega⟩, rfl⟩
  obtain ⟨n3, hn3⟩ : ∃ n : Fin 16, n.val = n0.val + 3 := ⟨⟨n0.val + 3, by omega⟩, rfl⟩
  obtain ⟨n4, hn4⟩ : ∃ n : Fin 16, n.val = n0.val + 4 := ⟨⟨n0.val + 4, by omega⟩, rfl⟩
  obtain ⟨n5, hn5⟩ : ∃ n : Fin 16, n.val = n0.val + 5 := ⟨⟨n0.val + 5, by omega⟩, rfl⟩
  obtain ⟨n6, hn6⟩ : ∃ n : Fin 16, n.val = n0.val + 6 := ⟨⟨n0.val + 6, by omega⟩, rfl⟩
  obtain ⟨n7, hn7⟩ : ∃ n : Fin 16, n.val = n0.val + 7 := ⟨⟨n0.val + 7, by omega⟩, rfl⟩
  have g0 := x_rows m c t b hb 0 inb_S1x1024x1024_S1x256x1024_0_0_0 n0 (by omega) (by omega)
  have g1 := x_rows m c t b hb 256 inb_S1x1024x1024_S1x256x1024_0_256_0 n2 (by omega) (by omega)
  have g2 := x_rows m c t b hb 512 inb_S1x1024x1024_S1x256x1024_0_512_0 n4 (by omega) (by omega)
  have g3 := x_rows m c t b hb 768 inb_S1x1024x1024_S1x256x1024_0_768_0 n6 (by omega) (by omega)
  have hcase (x : Fin 256) (n : Fin 16) (o : Nat) (hn : n.val * 128 = t.val % 2 * 1024 + o) (hr : r.val = o + x.val) :
      ∃ i : Fin 2, q.val = n.val + i.val ∧ x.val = i.val * 128 + a.val :=
    ⟨⟨x.val / 128, by omega⟩, by dsimp only; omega, by dsimp only; omega⟩
  unfold canonTile
  canon_tiles x h
  case piece0 =>
    obtain ⟨i, hi, hx⟩ := hcase (x 1) n6 768 (by omega) h1
    rw [entry_eq x d h2]
    exact pointTile_at m c hf t b n6 n7 (by omega) _ g3 _ _ _ (leftK_at m c t b n4 n5 n6 (by omega) (by omega) _ g2) (leftV_at m c t b n4 n5 n6 (by omega) (by omega) _ g2) (mask_band n6 (by omega)) q a i _ d hi hx
  case piece1 =>
    obtain ⟨i, hi, hx⟩ := hcase (x 1) n4 512 (by omega) h1
    rw [entry_eq x d h2]
    exact pointTile_at m c hf t b n4 n5 (by omega) _ g2 _ _ _ (leftK_at m c t b n2 n3 n4 (by omega) (by omega) _ g1) (leftV_at m c t b n2 n3 n4 (by omega) (by omega) _ g1) (mask_band n4 (by omega)) q a i _ d hi hx
  case piece2 =>
    obtain ⟨i, hi, hx⟩ := hcase (x 1) n2 256 (by omega) h1
    rw [entry_eq x d h2]
    exact pointTile_at m c hf t b n2 n3 (by omega) _ g1 _ _ _ (leftK_at m c t b n0 n1 n2 (by omega) (by omega) _ g0) (leftV_at m c t b n0 n1 n2 (by omega) (by omega) _ g0) (mask_band n2 (by omega)) q a i _ d hi hx
  case piece3 =>
    obtain ⟨i, hi, hx⟩ := hcase (x 1) n0 0 (by omega) (h1.trans (Nat.zero_add _).symm)
    rw [entry_eq x d h2]
    exact pointTile_at m c hf t b n0 n1 (by omega) _ g0 _ _ _ hpk hpv (mask_first t n0 hn0) q a i _ d hi hx

/-- What a point stores is the mixer's. -/
theorem point (c : Dev nD) (hf : Finite m c) (t : Fin cfg0.N) (b : Fin 32) (hb : b.val = t.val / 2) (r d : Fin 1024) (q : Fin 16) (a : Fin 128)
    (hq : q.val * 128 + a.val = t.val % 2 * 1024 + r.val) :
    (show Vec Ideal S1x1024x1024 .f32 from (outsAt0 m c t.val t.isLt).1) (ix3 0 r d)
      = mixer (aX m c b) (aG m c) (aW m c) (aS m c) (aLG m c) (aLB m c) (aWS m c) (aBS m c) (aWA m c) (aWB m c) (aWO m c) (aH m c) q a d := by
  have h2 : t.val % 2 < 2 := Nat.mod_lt _ (by decide)
  by_cases ht : t.val % 2 = 0
  · refine (congrFun (openA m c t ht _ rfl) (ix3 0 r d)).trans ?_
    exact canonTile_at m c hf t b hb 0 (by show 0 = _; omega) _ _ (fun J y => zeroK t _ 0 rfl J y _) (fun e J => zeroV t _ 0 rfl e J _) r d q a hq
  · refine (congrFun (openB m c t ht _ rfl) (ix3 0 r d)).trans ?_
    have hu : t.val - 1 < cfg0.N := Nat.lt_of_le_of_lt (Nat.sub_le t.val 1) t.isLt
    have g := x_rows m c ⟨t.val - 1, hu⟩ b (by dsimp only; omega) 768 inb_S1x1024x1024_S1x256x1024_0_768_0 6 (by show 768 = _; dsimp only; omega) (by decide)
    refine canonTile_at m c hf t b hb 8 (by show 8 = _; omega) _ _ (fun J y => ?_) (fun e J => ?_) r d q a hq
    · rw [passK m c t ⟨t.val - 1, hu⟩ ht rfl]
      exact leftK_at m c _ b 6 7 8 rfl rfl _ g J y
    · rw [passV m c t ⟨t.val - 1, hu⟩ ht rfl]
      exact leftV_at m c _ b 6 7 8 rfl rfl _ g e J

/-- The layer's array after the run is the reference's result. -/
theorem final15 (c : Dev nD) (hf : Finite m c) : (dats m 0 c).arrAt 15 (cfgs 0).N
      = Cert.ReferenceIdeal.Value.resRef (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) := by
  refine (dats m 0 c).arrAt_eq_of_covers 15 _ (by decide +kernel) fun t _ y => ?_
  blk_simp
  rw [after0_15]
  have ht := (idxIn t).2.2.2.2.2.2.2.2.2.2.2.2.2
  obtain ⟨r, d, rfl⟩ : ∃ (r d : Fin 1024), y = ix3 0 r d := ⟨y 1, y 2, entry_eq1 y _ rfl⟩
  obtain ⟨b, hb⟩ : ∃ b : Fin 32, b.val = t.val / 2 := ⟨⟨t.val / 2, by omega⟩, rfl⟩
  obtain ⟨q, a, hq⟩ : ∃ (q : Fin 16) (a : Fin 128), q.val * 128 + a.val = t.val % 2 * 1024 + r.val :=
    ⟨⟨(t.val % 2 * 1024 + r.val) / 128, by omega⟩, ⟨(t.val % 2 * 1024 + r.val) % 128, Nat.mod_lt _ (by decide)⟩, by dsimp only; omega⟩
  have e : ((cfg0.win 15).blk t).view.emb (ix3 0 r d) = (ix3 b (rowOf q a) d : S32x2048x1024.Idx) := by
    have hrow : (rowOf q a).val = q.val * 128 + a.val := rfl
    generalize rowOf q a = p at hrow
    blk_ext [idxIn t]
  refine Eq.trans ?_ (congrArg _ e).symm
  refine (point m c hf t b hb r d q a hq).trans ?_
  exact (Cert.ReferenceIdeal.Value.resRef_at _ _ _ _ _ _ _ _ _ _ _ _ b q a d).symm

end Cert.KernelIdeal.Value
end
-- ==== Proof.MixCast.lean ====
module

public import proofs.«01_k».proof.Proof.MixWin

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Spec

variable (m : (ℓ : Loc nD τ sig) → Buf (Elt Ideal) ℓ)

/-- The feed-forward gate weight's block. -/
theorem blk12 (c : Dev nD) (t : Fin cfg0.N) (r : Fin 16) (d : Fin 2816) (p : Fin 1024) (q : Fin 2816) (hp : p.val = t.val * 16 + r.val) (hq : q.val = d.val) :
    (show FVec Ideal S16x2816 .f32 from iblk m c 12 t) (ix2 r d) = (show FVec Ideal S1x1024x2816 .f32 from m ((c : Thread nD τ).loc main_arg12)) (ix3 0 p q) := by
  blk_simp [iblk]
  entry_read
  pointwise
  blk_ext [idxCast t]

/-- The gate weight's cast at an entry. -/
theorem pay12_at (x : FVec Ideal S16x2816 .f32) (r : Fin 16) (d : Fin 2816) : (k0_pay29 (F := Ideal) x (ix2 r d) : EReal) = x (ix2 r d) := by
  pointwise [k0_pay29]

/-- The reference's gate weight at an entry. -/
theorem ref12_at (x : FVec Ideal S1x1024x2816 .f32) (h : S1x1024x2816.ShapeCasts S1024x2816) (p : Fin 1024) (q : Fin 2816) :
    (truncf .bf16 (shapeCast S1024x2816 x h) bitsLt_bf16_f32 : FVec Ideal S1024x2816 .bf16) (ix2 p q) = x (ix3 0 p q) := by
  pointwise

/-- The cast gate weight after the run is the reference's. -/
theorem final16 (c : Dev nD) (h : S1x1024x2816.ShapeCasts S1024x2816) : (dats m 0 c).arrAt 16 (cfgs 0).N
      = (truncf .bf16 (shapeCast S1024x2816 (show FVec Ideal S1x1024x2816 .f32 from m ((c : Thread nD τ).loc main_arg12)) h) bitsLt_bf16_f32 : FVec Ideal S1024x2816 .bf16) := by
  refine (dats m 0 c).arrAt_eq_of_covers 16 _ (by decide +kernel) fun t _ y => ?_
  blk_simp
  rw [after0_16]
  have ht := (idxCast t).2.2.2.2.2.2
  obtain ⟨r, d, rfl⟩ : ∃ (r : Fin 16) (d : Fin 2816), y = ix2 r d := ⟨y 0, y 1, by funext a; fin_cases a <;> rfl⟩
  obtain ⟨p, hp⟩ : ∃ p : Fin 1024, p.val = t.val * 16 + r.val := ⟨⟨t.val * 16 + r.val, by omega⟩, rfl⟩
  obtain ⟨q, hq⟩ : ∃ q : Fin 2816, q.val = d.val := ⟨⟨d.val, by omega⟩, rfl⟩
  have e : ((cfg0.win 16).blk t).view.emb (ix2 r d) = (ix2 p q : S1024x2816.Idx) := by
    blk_ext [idxCast t]
  refine Eq.trans ?_ (congrArg _ e).symm
  refine (congrFun (cast16 m c t _ rfl) (ix2 r d)).trans ?_
  refine (pay12_at _ r d).trans ((blk12 m c t r d p q hp hq).trans ?_)
  exact (ref12_at _ _ p q).symm

/-- The feed-forward up weight's block. -/
theorem blk13 (c : Dev nD) (t : Fin cfg0.N) (r : Fin 16) (d : Fin 2816) (p : Fin 1024) (q : Fin 2816) (hp : p.val = t.val * 16 + r.val) (hq : q.val = d.val) :
    (show FVec Ideal S16x2816 .f32 from iblk m c 13 t) (ix2 r d) = (show FVec Ideal S1x1024x2816 .f32 from m ((c : Thread nD τ).loc main_arg13)) (ix3 0 p q) := by
  blk_simp [iblk]
  entry_read
  pointwise
  blk_ext [idxCast t]

/-- The up weight's cast at an entry. -/
theorem pay13_at (x : FVec Ideal S16x2816 .f32) (r : Fin 16) (d : Fin 2816) : (k0_pay30 (F := Ideal) x (ix2 r d) : EReal) = x (ix2 r d) := by
  pointwise [k0_pay30]

/-- The reference's up weight at an entry. -/
theorem ref13_at (x : FVec Ideal S1x1024x2816 .f32) (h : S1x1024x2816.ShapeCasts S1024x2816) (p : Fin 1024) (q : Fin 2816) :
    (truncf .bf16 (shapeCast S1024x2816 x h) bitsLt_bf16_f32 : FVec Ideal S1024x2816 .bf16) (ix2 p q) = x (ix3 0 p q) := by
  pointwise

/-- The cast up weight after the run is the reference's. -/
theorem final17 (c : Dev nD) (h : S1x1024x2816.ShapeCasts S1024x2816) : (dats m 0 c).arrAt 17 (cfgs 0).N
      = (truncf .bf16 (shapeCast S1024x2816 (show FVec Ideal S1x1024x2816 .f32 from m ((c : Thread nD τ).loc main_arg13)) h) bitsLt_bf16_f32 : FVec Ideal S1024x2816 .bf16) := by
  refine (dats m 0 c).arrAt_eq_of_covers 17 _ (by decide +kernel) fun t _ y => ?_
  blk_simp
  rw [after0_17]
  have ht := (idxCast t).2.2.2.2.2.2
  obtain ⟨r, d, rfl⟩ : ∃ (r : Fin 16) (d : Fin 2816), y = ix2 r d := ⟨y 0, y 1, by funext a; fin_cases a <;> rfl⟩
  obtain ⟨p, hp⟩ : ∃ p : Fin 1024, p.val = t.val * 16 + r.val := ⟨⟨t.val * 16 + r.val, by omega⟩, rfl⟩
  obtain ⟨q, hq⟩ : ∃ q : Fin 2816, q.val = d.val := ⟨⟨d.val, by omega⟩, rfl⟩
  have e : ((cfg0.win 17).blk t).view.emb (ix2 r d) = (ix2 p q : S1024x2816.Idx) := by
    blk_ext [idxCast t]
  refine Eq.trans ?_ (congrArg _ e).symm
  refine (congrFun (cast17 m c t _ rfl) (ix2 r d)).trans ?_
  refine (pay13_at _ r d).trans ((blk13 m c t r d p q hp hq).trans ?_)
  exact (ref13_at _ _ p q).symm

/-- The feed-forward down weight's block. -/
theorem blk14 (c : Dev nD) (t : Fin cfg0.N) (r : Fin 176) (d : Fin 256) (p : Fin 2816) (q : Fin 1024) (hp : p.val = t.val / 4 * 176 + r.val) (hq : q.val = t.val % 4 * 256 + d.val) :
    (show FVec Ideal S176x256 .f32 from iblk m c 14 t) (ix2 r d) = (show FVec Ideal S1x2816x1024 .f32 from m ((c : Thread nD τ).loc main_arg14)) (ix3 0 p q) := by
  blk_simp [iblk]
  entry_read
  pointwise
  blk_ext [idxCast t]

/-- The down weight's cast at an entry. -/
theorem pay14_at (x : FVec Ideal S176x256 .f32) (r : Fin 176) (d : Fin 256) : (k0_pay31 (F := Ideal) x (ix2 r d) : EReal) = x (ix2 r d) := by
  pointwise [k0_pay31]

/-- The reference's down weight at an entry. -/
theorem ref14_at (x : FVec Ideal S1x2816x1024 .f32) (h : S1x2816x1024.ShapeCasts S2816x1024) (p : Fin 2816) (q : Fin 1024) :
    (truncf .bf16 (shapeCast S2816x1024 x h) bitsLt_bf16_f32 : FVec Ideal S2816x1024 .bf16) (ix2 p q) = x (ix3 0 p q) := by
  pointwise

/-- The cast down weight after the run is the reference's. -/
theorem final18 (c : Dev nD) (h : S1x2816x1024.ShapeCasts S2816x1024) : (dats m 0 c).arrAt 18 (cfgs 0).N
      = (truncf .bf16 (shapeCast S2816x1024 (show FVec Ideal S1x2816x1024 .f32 from m ((c : Thread nD τ).loc main_arg14)) h) bitsLt_bf16_f32 : FVec Ideal S2816x1024 .bf16) := by
  refine (dats m 0 c).arrAt_eq_of_covers 18 _ (by decide +kernel) fun t _ y => ?_
  blk_simp
  rw [after0_18]
  have ht := (idxCast t).2.2.2.2.2.2
  obtain ⟨r, d, rfl⟩ : ∃ (r : Fin 176) (d : Fin 256), y = ix2 r d := ⟨y 0, y 1, by funext a; fin_cases a <;> rfl⟩
  obtain ⟨p, hp⟩ : ∃ p : Fin 2816, p.val = t.val / 4 * 176 + r.val := ⟨⟨t.val / 4 * 176 + r.val, by omega⟩, rfl⟩
  obtain ⟨q, hq⟩ : ∃ q : Fin 1024, q.val = t.val % 4 * 256 + d.val := ⟨⟨t.val % 4 * 256 + d.val, by omega⟩, rfl⟩
  have e : ((cfg0.win 18).blk t).view.emb (ix2 r d) = (ix2 p q : S2816x1024.Idx) := by
    blk_ext [idxCast t]
  refine Eq.trans ?_ (congrArg _ e).symm
  refine (congrFun (cast18 m c t _ rfl) (ix2 r d)).trans ?_
  refine (pay14_at _ r d).trans ((blk14 m c t r d p q hp hq).trans ?_)
  exact (ref14_at _ _ p q).symm

end Cert.KernelIdeal.Value
end
-- ==== Proof.MixPre.lean ====
module

public import proofs.«01_k».proof.Proof.MixReal
public import proofs.«01_k».proof.Pre_attention_finite
public import Idealize.ShloMosaic.Lib.ReduceAll

@[expose] public section

set_option maxRecDepth 16384

noncomputable section

namespace Cert.Pre_attention_finite

open Idealize.ShloMosaic Cert.Spec

/-- The precondition's own facts: shapes that broadcast and reduce. -/
instance facts : Facts where
  bcast_S_S1x1024 := by decide
  reducesTo_S1x1024_S_d0_1 := by decide
  h_S_ := by decide
  slices_S1x1024x3840_S1x1024x640_0_0_0 := by decide
  bcast_S_S1x1024x640 := by decide
  reducesTo_S1x1024x640_S_d0_1_2 := by decide
  bcast_S_S1x8 := by decide
  reducesTo_S1x8_S_d0_1 := by decide

/-- The result has one index. -/
instance : Subsingleton S_.Idx := ⟨fun a b => funext fun i => i.elim0⟩

/-- The word of infinity. -/
theorem word_top : Ideal.ofBits .f32 0x7F800000#32 = (⊤ : EReal) := by
  simp [Ideal.ofBits, Ideal.ieee]

/-- A number whose magnitude is below infinity is real. -/
theorem fin_of_lt (x : EReal) (h : Ideal.cmp .olt (max x (-x)) (Ideal.ofBits .f32 0x7F800000#32) = 1#1) : Fin' x := by
  have h : Ideal.cmp .olt (max x (-x)) (Ideal.ofBits .f32 0x7F800000#32) = 1 := h
  rw [word_top, Ideal.cmp_olt_eq_one, max_lt_iff] at h
  refine ⟨x.toReal, (EReal.coe_toReal h.1.ne ?_).symm⟩
  rintro rfl
  exact absurd h.2 (by simp)

/-- An array all of whose magnitudes are below infinity is real everywhere. -/
theorem fin_of_all {s : Shape} {axes : List (Fin s.rank)} (x : FVec Ideal s .f32) (b : S_.BroadcastsInDim s (![] : Fin 0 → Fin s.rank))
    (r : s.ReducesTo axes S_) (hu : 0 < S_.numel) (j : S_.Idx)
    (h : Host.reduce IntOp.andi (cmpf .olt (Host.absf x) (broadcastInDim s ![] b (constant S_ .f32 0x7F800000#32))) (constantI S_ 1 1#1) r hu j = 1#1)
    (i : s.Idx) : Fin' (x i) :=
  fin_of_lt _ (Host.reduce_andi_all _ _ _ _ j h i)

/-- An array that is below infinity everywhere. -/
theorem lt_of_all {s : Shape} {axes : List (Fin s.rank)} (x : FVec Ideal s .f32) (b : S_.BroadcastsInDim s (![] : Fin 0 → Fin s.rank))
    (r : s.ReducesTo axes S_) (hu : 0 < S_.numel) (j : S_.Idx)
    (h : Host.reduce IntOp.andi (cmpf .olt x (broadcastInDim s ![] b (constant S_ .f32 0x7F800000#32))) (constantI S_ 1 1#1) r hu j = 1#1)
    (i : s.Idx) : x i < ⊤ := by
  have h : Ideal.cmp .olt (x i) (Ideal.ofBits .f32 0x7F800000#32) = 1 := Host.reduce_andi_all _ _ _ _ j h i
  rwa [word_top, Ideal.cmp_olt_eq_one] at h

/-- What the precondition says of the three arrays. -/
theorem finite_of (a0 : FVec Ideal S32x2048x1024 .f32) (a1 : FVec Ideal S1x1024 .f32) (a2 : FVec Ideal S1x1024x3840 .f32) (a3 : FVec Ideal S1x8 .f32)
    (a4 a5 : FVec Ideal S1x512 .f32) (a6 : FVec Ideal S1x4x128x128 .f32) (a7 : FVec Ideal S1x4x128 .f32) (a8 a9 : FVec Ideal S1x512x1024 .f32)
    (a10 : FVec Ideal S1x1024x1024 .f32) (a11 : FVec Ideal S1x1024 .f32) (a12 a13 : FVec Ideal S1x1024x2816 .f32) (a14 : FVec Ideal S1x2816x1024 .f32)
    (h : fn (F := Ideal) a0 a1 a2 a3 a4 a5 a6 a7 a8 a9 a10 a11 a12 a13 a14 = fun _ => 1#1) :
    (∀ i, Fin' (a1 i)) ∧ (∀ (k : Fin 1024) (e : Fin 3840), e.val < 640 → Fin' (a2 (ix3 0 k e))) ∧ ∀ i, a3 i < ⊤ := by
  have h := congrFun h (fun i => i.elim0)
  obtain ⟨h, h3⟩ := IntOp.andi_eq_one.1 h
  obtain ⟨h1, h2⟩ := IntOp.andi_eq_one.1 h
  refine ⟨fin_of_all a1 _ _ _ _ h1, fun k e he => ?_, lt_of_all a3 _ _ _ _ h3⟩
  have h4 := fin_of_all _ _ _ _ _ h2 (ix3 (0 : Fin 1) k (⟨e.val, he⟩ : Fin 640))
  have h5 : extractStridedSlice S1x1024x640 ![0, 0, 0] a2 facts.slices_S1x1024x3840_S1x1024x640_0_0_0 (ix3 (0 : Fin 1) k (⟨e.val, he⟩ : Fin 640))
      = a2 (ix3 0 k e) := by
    pointwise []
  exact h5 ▸ h4

end Cert.Pre_attention_finite
end
-- ==== Proof.MixClaims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.MixReference
public import proofs.«01_k».proof.Proof.MixValue
public import proofs.«01_k».proof.Proof.MixCast
public import proofs.«01_k».proof.Proof.MixPre
public import Idealize.ShloMosaic.Lib.Claim

@[expose] public section

set_option maxRecDepth 16384

noncomputable section

namespace Cert.Proof

open Idealize.ShloMosaic Idealize.SL.Sem

/-- The mixer kernel's frame claim. -/
theorem frame_mixer : Cert.quiescent_Kernel := fun m g _ => Cert.Kernel.Gen.frame m g

/-- The idealized mixer kernel's frame claim. -/
theorem frame_mixer_ideal : Cert.quiescent_KernelIdeal := fun m g _ => Cert.KernelIdeal.Gen.frame m g

set_option maxHeartbeats 1600000 in
/-- The mixer reference's frame claim. -/
theorem frame_mixer_reference : Cert.quiescent_ReferenceIdeal := by
  intro m g _
  run_from Cert.ReferenceIdeal.Value.run m g
  · intro _
    repeat' apply And.intro
    all_goals trivial
  · exact sem_eq_zero_of_no_sems rfl _

/-- The idealized mixer kernel's frame claim, under the precondition. -/
theorem frame_mixer_ideal_finite : Cert.quiescent_KernelIdeal_pre_attention_finite := fun m g _ => Cert.KernelIdeal.Gen.frame m g

/-- The mixer reference's frame claim, under the precondition. -/
theorem frame_mixer_reference_finite : Cert.quiescent_ReferenceIdeal_pre_attention_finite := fun m g _ => frame_mixer_reference m g trivial

/-- The precondition makes the scores real. -/
theorem mixer_finite (m : (ℓ : Loc Cert.KernelIdeal.nD Cert.KernelIdeal.τ Cert.KernelIdeal.sig) → Buf (Elt Ideal) ℓ)
    (h : Cert.Pre_KernelIdeal_attention_finite m) (c : Dev Cert.KernelIdeal.nD) : Cert.KernelIdeal.Value.Finite m c := by
  obtain ⟨h1, h2, h3⟩ := Cert.Pre_attention_finite.finite_of _ _ _ _ _ _ _ _ _ _ _ _ _ _ _ (h c)
  exact ⟨fun k => h1 _, fun k e he => h2 k e he, fun q => h3 _⟩

set_option maxHeartbeats 1600000 in
/-- The mixer kernel computes the mixer reference over the extended reals. -/
theorem algebraic_mixer : Cert.algebraic_KernelIdeal_ReferenceIdeal_pre_attention_finite := by
  intro m g m' g' hpre hagree
  refine ⟨fun c => (Cert.KernelIdeal.Gen.dats m 0 c).arrAt 15 (Cert.KernelIdeal.cfgs 0).N, fun c => (Cert.KernelIdeal.Gen.dats m 0 c).arrAt 16 (Cert.KernelIdeal.cfgs 0).N,
    fun c => (Cert.KernelIdeal.Gen.dats m 0 c).arrAt 17 (Cert.KernelIdeal.cfgs 0).N, fun c => (Cert.KernelIdeal.Gen.dats m 0 c).arrAt 18 (Cert.KernelIdeal.cfgs 0).N, ?_, ?_⟩
  · run_from Cert.KernelIdeal.Gen.run_main m g
    · exact hc.1 16
    · exact hc.1 17
    · exact hc.1 18
  · refine (θ_run Cert.ReferenceIdeal.defs _ _).mono ?_ (Cert.ReferenceIdeal.Value.run m' g')
    intro r hr c
    obtain ⟨h0, h1, h2, h3, h4, h5, h6, h7, h8, h9, h10, h11, h12, h13, h14⟩ := hagree c
    obtain ⟨r0, r1, r2, r3, hrest⟩ := hr c
    refine ⟨r0.trans ?_, r1.trans ?_, r2.trans ?_, r3.trans ?_, hrest⟩
    · refine Eq.trans ?_ (Cert.KernelIdeal.Value.final15 m c (mixer_finite m hpre c)).symm
      refine (Cert.ReferenceIdeal.Value.val5_main_v202 _).symm.trans ((Cert.ReferenceIdeal.Value.res_eq _).trans ?_)
      show Cert.ReferenceIdeal.Value.resRef (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [h0, h1, h2, h3, h4, h5, h6, h7, h8, h9, h10, h11]
    · refine Eq.trans ?_ (Cert.KernelIdeal.Value.final16 m c Cert.ReferenceIdeal.Gen.shapeCasts_S1x1024x2816_S1024x2816).symm
      rw [← h12]
    · refine Eq.trans ?_ (Cert.KernelIdeal.Value.final17 m c Cert.ReferenceIdeal.Gen.shapeCasts_S1x1024x2816_S1024x2816).symm
      rw [← h13]
    · refine Eq.trans ?_ (Cert.KernelIdeal.Value.final18 m c Cert.ReferenceIdeal.Gen.shapeCasts_S1x2816x1024_S2816x1024).symm
      rw [← h14]

end Cert.Proof
end
-- ==== Proof.FfnBlock.lean ====
module

public import proofs.«01_k».proof.Proof.Gen.Kernel2Ideal.Frame
public import proofs.«01_k».proof.Proof.Spec

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Spec

/-- RMS normalisation of the rows of a 256-row block with a gain row. -/
def rmsBlk (v : FVec Ideal S256x1024 .f32) (g : FVec Ideal S1x1024 .f32) : FVec Ideal S256x1024 .f32 :=
  mulf (mulf v (broadcastTo S256x1024 (rsqrt (addf (divf (shapeCast S256x1
      (multiReduction .add [1] S256 (mulf v v) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024)

/-- The product of a normalised block with a 1024 × 2816 weight. -/
def projBlk (y : FVec Ideal S256x1024 .bf16) (w : FVec Ideal S1024x2816 .bf16) : FVec Ideal S256x2816 .f32 :=
  matmul dot_S256x1024_S1024x2816_S256x2816_1_0_0_1_n_n none y (shapeCast S1024x2816 w shapeCasts_S1024x2816_S1024x2816)
    (constant S256x2816 .f32 0x00000000#32)

/-- The gated hidden block from the gate and the up products. -/
def hidBlk (a u : FVec Ideal S256x2816 .f32) : FVec Ideal S256x2816 .bf16 :=
  truncf .bf16 (mulf (mulf a (addf (mulf (broadcast S256x2816 (Scalar.ofBits .f32 0x3F000000#32))
    (tanh (mulf (broadcast S256x2816 (Scalar.ofBits .f32 0x3F000000#32)) a)))
    (broadcast S256x2816 (Scalar.ofBits .f32 0x3F000000#32)))) u) bitsLt_bf16_f32

/-- The product of the hidden block with the 2816 × 1024 weight. -/
def downBlk (h : FVec Ideal S256x2816 .bf16) (w : FVec Ideal S2816x1024 .bf16) : FVec Ideal S256x1024 .f32 :=
  matmul dot_S256x2816_S2816x1024_S256x1024_1_0_0_1_n_n none h
    (shapeCast S2816x1024 w shapeCasts_S2816x1024_S2816x1024) (constant S256x1024 .f32 0x00000000#32)

/-- What the kernel stores for one 256-row block: the whole feed-forward layer on it. -/
def ffnBlk (v0 : FVec Ideal S256x1024 .f32) (g : FVec Ideal S1x1024 .f32) (wg wu : FVec Ideal S1024x2816 .bf16)
    (wd : FVec Ideal S2816x1024 .bf16) (g' : FVec Ideal S1x1024 .f32) : FVec Ideal S256x1024 .f32 :=
  let v := shapeCast S256x1024 v0 shapeCasts_S256x1024_S256x1024
  let y := truncf .bf16 (rmsBlk v g) bitsLt_bf16_f32
  addf v (rmsBlk (downBlk (hidBlk (projBlk y wg) (projBlk y wu)) wd) g')

/-- One entry of the block's normalised row. -/
theorem rmsBlk_at (v : FVec Ideal S256x1024 .f32) (g : FVec Ideal S1x1024 .f32) (r : Fin 256) (d : Fin 1024) :
    rmsBlk v g (ix2 r d) = rms (fun k => v (ix2 r k)) (fun k => g (ix2 0 k)) d := by
  pointwise [rmsBlk]
  rfl

/-- One entry of the block's projection to the hidden width. -/
theorem projBlk_at (v : FVec Ideal S256x1024 .bf16) (w : FVec Ideal S1024x2816 .bf16) (r : Fin 256) (d : Fin 2816) :
    projBlk v w (ix2 r d) = ∑ k : Fin 1024, v (ix2 r k) * w (ix2 k d) := by
  pointwise [projBlk]

/-- One entry of the block's projection back to the model width. -/
theorem downBlk_at (v : FVec Ideal S256x2816 .bf16) (w : FVec Ideal S2816x1024 .bf16) (r : Fin 256) (d : Fin 1024) :
    downBlk v w (ix2 r d) = ∑ k : Fin 2816, v (ix2 r k) * w (ix2 k d) := by
  pointwise [downBlk]

/-- One entry of the block's gated hidden row. -/
theorem hidBlk_at (a u : FVec Ideal S256x2816 .f32) (r : Fin 256) (d : Fin 2816) :
    hidBlk a u (ix2 r d) = a (ix2 r d) * logi (a (ix2 r d)) * u (ix2 r d) := by
  pointwise [hidBlk]
  rw [tanh_logi]

/-- One row of a stored block is the feed-forward layer on that row of the loaded block. -/
theorem ffnBlk_at (v : FVec Ideal S256x1024 .f32) (g : FVec Ideal S1x1024 .f32) (wg wu : FVec Ideal S1024x2816 .bf16)
    (wd : FVec Ideal S2816x1024 .bf16) (g' : FVec Ideal S1x1024 .f32) (r : Fin 256) (d : Fin 1024) :
    ffnBlk v g wg wu wd g' (ix2 r d) = ffn (fun k => v (ix2 r k)) (fun k => g (ix2 0 k)) (fun k f => wg (ix2 k f))
      (fun k f => wu (ix2 k f)) (fun f k => wd (ix2 f k)) (fun k => g' (ix2 0 k)) d := by
  pointwise [ffnBlk]
  simp only [rmsBlk_at, downBlk_at, hidBlk_at, projBlk_at]
  pointwise []
  simp only [rmsBlk_at]
  rfl

/-- The offset of a load of a whole window. -/
theorem zero_off : (![0, 0] : Fin 2 → ℕ) = fun _ => 0 := by
  funext a; fin_cases a <;> rfl

/-- The body's four stores: each the feed-forward layer on its 256 rows of the tile. -/
theorem pieces (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x1024 .f32) :
    out0_6 x0 x1 x2 x3 x4 x5 = View.canon [
      ⟨r0_4, ffnBlk (View.ld x0 r0_4) x1 x2 x3 x4 x5⟩,
      ⟨r0_3, ffnBlk (View.ld x0 r0_3) x1 x2 x3 x4 x5⟩,
      ⟨r0_2, ffnBlk (View.ld x0 r0_2) x1 x2 x3 x4 x5⟩,
      ⟨r0_0, ffnBlk (View.ld x0 r0_0) x1 x2 x3 x4 x5⟩] := by
  have e1 : ∀ x : Vec Ideal S1x1024 .f32, View.ld x r0_1 = x := fun x => View.ld_unit_zero zero_off _ x
  have e2 : ∀ x : Vec Ideal S1024x2816 .bf16, View.ld x r0_5 = x := fun x => View.ld_unit_zero zero_off _ x
  have e4 : ∀ x : Vec Ideal S2816x1024 .bf16, View.ld x r0_6 = x := fun x => View.ld_unit_zero zero_off _ x
  have h : out0_6 x0 x1 x2 x3 x4 x5 = View.canon [
      ⟨r0_4, ffnBlk (View.ld x0 r0_4) (View.ld x1 r0_1) (View.ld x2 r0_5) (View.ld x3 r0_5) (View.ld x4 r0_6) (View.ld x5 r0_1)⟩,
      ⟨r0_3, ffnBlk (View.ld x0 r0_3) (View.ld x1 r0_1) (View.ld x2 r0_5) (View.ld x3 r0_5) (View.ld x4 r0_6) (View.ld x5 r0_1)⟩,
      ⟨r0_2, ffnBlk (View.ld x0 r0_2) (View.ld x1 r0_1) (View.ld x2 r0_5) (View.ld x3 r0_5) (View.ld x4 r0_6) (View.ld x5 r0_1)⟩,
      ⟨r0_0, ffnBlk (View.ld x0 r0_0) (View.ld x1 r0_1) (View.ld x2 r0_5) (View.ld x3 r0_5) (View.ld x4 r0_6) (View.ld x5 r0_1)⟩] := rfl
  rw [h]
  simp only [e1, e2, e4]

/-- A row of the tile's load at offset 0. -/
theorem ld_r0_0 (x : Vec Ideal S1024x1024 .f32) (r : Fin 256) (k : Fin 1024) :
    View.ld x r0_0 (ix2 r k) = x (ix2 ⟨0 + r.val, by omega⟩ k) := by
  refine View.ld_unit_apply_of _ _ _ _ _ _ fun a => ?_
  fin_cases a
  · rfl
  · exact (Nat.zero_add _).symm

/-- A row of the tile's load at offset 256. -/
theorem ld_r0_2 (x : Vec Ideal S1024x1024 .f32) (r : Fin 256) (k : Fin 1024) :
    View.ld x r0_2 (ix2 r k) = x (ix2 ⟨256 + r.val, by omega⟩ k) := by
  refine View.ld_unit_apply_of _ _ _ _ _ _ fun a => ?_
  fin_cases a
  · rfl
  · exact (Nat.zero_add _).symm

/-- A row of the tile's load at offset 512. -/
theorem ld_r0_3 (x : Vec Ideal S1024x1024 .f32) (r : Fin 256) (k : Fin 1024) :
    View.ld x r0_3 (ix2 r k) = x (ix2 ⟨512 + r.val, by omega⟩ k) := by
  refine View.ld_unit_apply_of _ _ _ _ _ _ fun a => ?_
  fin_cases a
  · rfl
  · exact (Nat.zero_add _).symm

/-- A row of the tile's load at offset 768. -/
theorem ld_r0_4 (x : Vec Ideal S1024x1024 .f32) (r : Fin 256) (k : Fin 1024) :
    View.ld x r0_4 (ix2 r k) = x (ix2 ⟨768 + r.val, by omega⟩ k) := by
  refine View.ld_unit_apply_of _ _ _ _ _ _ fun a => ?_
  fin_cases a
  · rfl
  · exact (Nat.zero_add _).symm

end Cert.Kernel2Ideal.Value
end
-- ==== Proof.FfnReference.lean ====
module

public import proofs.«01_k».proof.Proof.Gen.Reference2Ideal.Run
public import proofs.«01_k».proof.Proof.Spec

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Spec

/-- RMS normalisation over the last axis, as the reference writes it. -/
def rmsRef (x : FVec Ideal S32x2048x1024 .f32) (g : FVec Ideal S1x1024 .f32) : FVec Ideal S32x2048x1024 .f32 :=
  mulf (mulf x (broadcastInDim S32x2048x1024 ![0, 1, 2] bcast_S32x2048x1_S32x2048x1024_0_1_2 (Host.rsqrt (addf (Host.divf
      (broadcastInDim S32x2048x1 ![0, 1] bcast_S32x2048_S32x2048x1_0_1 (Host.reduceAdd (mulf x x) (constant S_ .f32 0x00000000#32)
        reducesTo_S32x2048x1024_S32x2048_d2 h_S_))
      (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 (shapeCast _ g shapeCasts_S1x1024_S1024)))

/-- A product with a 1024 × 2816 weight over all tokens. -/
def projRef (y : FVec Ideal S32x2048x1024 .f32) (w : FVec Ideal S1x1024x2816 .f32) : FVec Ideal S32x2048x2816 .f32 :=
  Host.dotGeneral dot_S32x2048x1024_S1024x2816_S32x2048x2816_2_0_01_1_n_n none y (shapeCast _ w shapeCasts_S1x1024x2816_S1024x2816)

/-- The gated hidden activations. -/
def hidRef (a u : FVec Ideal S32x2048x2816 .f32) : FVec Ideal S32x2048x2816 .f32 :=
  mulf (mulf a (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (Host.negf a))))) u

/-- The product of the hidden activations with the 2816 × 1024 weight. -/
def downRef (h : FVec Ideal S32x2048x2816 .f32) (w : FVec Ideal S1x2816x1024 .f32) : FVec Ideal S32x2048x1024 .f32 :=
  Host.dotGeneral dot_S32x2048x2816_S2816x1024_S32x2048x1024_2_0_01_1_n_n none h (shapeCast _ w shapeCasts_S1x2816x1024_S2816x1024)

/-- The reference's feed-forward layer over all tokens. -/
def ffnRef (x : FVec Ideal S32x2048x1024 .f32) (g : FVec Ideal S1x1024 .f32) (wg wu : FVec Ideal S1x1024x2816 .f32)
    (wd : FVec Ideal S1x2816x1024 .f32) (g' : FVec Ideal S1x1024 .f32) : FVec Ideal S32x2048x1024 .f32 :=
  addf x (rmsRef (downRef (hidRef (projRef (rmsRef x g) wg) (projRef (rmsRef x g) wu)) wd) g')

/-- One entry of the reference's normalised row. -/
theorem rmsRef_at (x : FVec Ideal S32x2048x1024 .f32) (g : FVec Ideal S1x1024 .f32) (b : Fin 32) (s : Fin 2048) (d : Fin 1024) :
    rmsRef x g (ix3 b s d) = rms (fun k => x (ix3 b s k)) (fun k => g (ix2 0 k)) d := by
  pointwise [rmsRef]
  rfl

/-- One entry of the reference's projection to the hidden width. -/
theorem projRef_at (y : FVec Ideal S32x2048x1024 .f32) (w : FVec Ideal S1x1024x2816 .f32) (b : Fin 32) (s : Fin 2048) (f : Fin 2816) :
    projRef y w (ix3 b s f) = ∑ k : Fin 1024, y (ix3 b s k) * w (ix3 0 k f) := by
  pointwise [projRef]

/-- One entry of the reference's gated hidden row. -/
theorem hidRef_at (a u : FVec Ideal S32x2048x2816 .f32) (b : Fin 32) (s : Fin 2048) (f : Fin 2816) :
    hidRef a u (ix3 b s f) = a (ix3 b s f) * logi (a (ix3 b s f)) * u (ix3 b s f) := by
  pointwise [hidRef]
  rfl

/-- One entry of the reference's projection back to the model width. -/
theorem downRef_at (h : FVec Ideal S32x2048x2816 .f32) (w : FVec Ideal S1x2816x1024 .f32) (b : Fin 32) (s : Fin 2048) (d : Fin 1024) :
    downRef h w (ix3 b s d) = ∑ f : Fin 2816, h (ix3 b s f) * w (ix3 0 f d) := by
  pointwise [downRef]

/-- One entry of the reference's feed-forward layer is the layer on that token's row. -/
theorem ffnRef_at (x : FVec Ideal S32x2048x1024 .f32) (g : FVec Ideal S1x1024 .f32) (wg wu : FVec Ideal S1x1024x2816 .f32)
    (wd : FVec Ideal S1x2816x1024 .f32) (g' : FVec Ideal S1x1024 .f32) (b : Fin 32) (s : Fin 2048) (d : Fin 1024) :
    ffnRef x g wg wu wd g' (ix3 b s d) = ffn (fun k => x (ix3 b s k)) (fun k => g (ix2 0 k)) (fun k f => wg (ix3 0 k f))
      (fun k f => wu (ix3 0 k f)) (fun f k => wd (ix3 0 f k)) (fun k => g' (ix2 0 k)) d := by
  pointwise [ffnRef]
  simp only [rmsRef_at, downRef_at, hidRef_at, projRef_at]
  rfl

/-- The reference's result: the feed-forward layer, its tokens numbered in one axis. -/
def resRef (x : FVec Ideal S32x2048x1024 .f32) (g : FVec Ideal S1x1024 .f32) (wg wu : FVec Ideal S1x1024x2816 .f32)
    (wd : FVec Ideal S1x2816x1024 .f32) (g' : FVec Ideal S1x1024 .f32) : FVec Ideal S65536x1024 .f32 :=
  shapeCast _ (ffnRef x g wg wu wd g') shapeCasts_S32x2048x1024_S65536x1024

/-- The result at token `n` is the layer at batch `n / 2048`, position `n % 2048`. -/
theorem resRef_at (x : FVec Ideal S32x2048x1024 .f32) (g : FVec Ideal S1x1024 .f32) (wg wu : FVec Ideal S1x1024x2816 .f32)
    (wd : FVec Ideal S1x2816x1024 .f32) (g' : FVec Ideal S1x1024 .f32) (n : Fin 65536) (d : Fin 1024) (b : Fin 32) (p : Fin 2048)
    (h : b.val * 2048 + p.val = n.val) :
    resRef x g wg wu wd g' (ix2 n d) = ffnRef x g wg wu wd g' (ix3 b p d) := by
  pointwise [resRef]
  blk_ext

/-- The reference's result is the composition of its steps. -/
theorem res_eq (m : (ℓ : Loc nD τ sig) → Buf (Elt Ideal) ℓ) (c : Dev nD) :
    res_out0 (F := Ideal) m c = resRef (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rfl

end Cert.Reference2Ideal.Value
end
-- ==== Proof.FfnValue.lean ====
module

public import proofs.«01_k».proof.Proof.FfnBlock
public import proofs.«01_k».proof.Proof.FfnReference

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Spec Cert.Reference2Ideal.Value

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ t.val < 64 :=
  (by decide +kernel : ∀ t : Fin grid0.N, _)

/-- The activations' block at a grid point: 1024 rows of the flattened array. -/
theorem blk0 (c : Dev nD) (t : Fin cfg0.N) (r : Fin 1024) (d : Fin 1024) (b : Fin 32) (p : Fin 2048)
    (h : b.val * 2048 + p.val = t.val * 1024 + r.val) :
    (show FVec Ideal S1024x1024 .f32 from iblk m c 0 t) (ix2 r d) = (show FVec Ideal S32x2048x1024 .f32 from m ((c : Thread nD τ).loc main_arg0)) (ix3 b p d) := by
  blk_simp [iblk]
  entry_read
  pointwise
  blk_ext [idx t]

/-- The first gain's block is the whole gain. -/
theorem blk1 (c : Dev nD) (t : Fin cfg0.N) (d : Fin 1024) :
    (show FVec Ideal S1x1024 .f32 from iblk m c 1 t) (ix2 0 d) = (show FVec Ideal S1x1024 .f32 from m ((c : Thread nD τ).loc main_arg1)) (ix2 0 d) := by
  blk_simp [iblk]
  entry_read
  pointwise
  blk_ext [idx t]

/-- The gate weight's block is the whole weight. -/
theorem blk2 (c : Dev nD) (t : Fin cfg0.N) (k : Fin 1024) (d : Fin 2816) :
    (show FVec Ideal S1024x2816 .bf16 from iblk m c 2 t) (ix2 k d) = (show FVec Ideal S1x1024x2816 .f32 from m ((c : Thread nD τ).loc main_arg2)) (ix3 0 k d) := by
  blk_simp [iblk]
  entry_read
  pointwise
  blk_ext [idx t]

/-- The up weight's block is the whole weight. -/
theorem blk3 (c : Dev nD) (t : Fin cfg0.N) (k : Fin 1024) (d : Fin 2816) :
    (show FVec Ideal S1024x2816 .bf16 from iblk m c 3 t) (ix2 k d) = (show FVec Ideal S1x1024x2816 .f32 from m ((c : Thread nD τ).loc main_arg3)) (ix3 0 k d) := by
  blk_simp [iblk]
  entry_read
  pointwise
  blk_ext [idx t]

/-- The down weight's block is the whole weight. -/
theorem blk4 (c : Dev nD) (t : Fin cfg0.N) (k : Fin 2816) (d : Fin 1024) :
    (show FVec Ideal S2816x1024 .bf16 from iblk m c 4 t) (ix2 k d) = (show FVec Ideal S1x2816x1024 .f32 from m ((c : Thread nD τ).loc main_arg4)) (ix3 0 k d) := by
  blk_simp [iblk]
  entry_read
  pointwise
  blk_ext [idx t]

/-- The last gain's block is the whole gain. -/
theorem blk5 (c : Dev nD) (t : Fin cfg0.N) (d : Fin 1024) :
    (show FVec Ideal S1x1024 .f32 from iblk m c 5 t) (ix2 0 d) = (show FVec Ideal S1x1024 .f32 from m ((c : Thread nD τ).loc main_arg5)) (ix2 0 d) := by
  blk_simp [iblk]
  entry_read
  pointwise
  blk_ext [idx t]

/-- What a stored row holds: the feed-forward layer on the token's row of the argument. -/
theorem rowAt (c : Dev nD) (t : Fin cfg0.N) (v : FVec Ideal S256x1024 .f32) (q : ℕ) (r : Fin 256) (d : Fin 1024)
    (hq : q + r.val < 1024) (hv : ∀ k, v (ix2 r k) = (show FVec Ideal S1024x1024 .f32 from iblk m c 0 t) (ix2 ⟨q + r.val, hq⟩ k))
    (b : Fin 32) (p : Fin 2048) (hbp : b.val * 2048 + p.val = t.val * 1024 + (q + r.val)) :
    ffnBlk v (iblk m c 1 t) (iblk m c 2 t) (iblk m c 3 t) (iblk m c 4 t) (iblk m c 5 t) (ix2 r d)
      = ffnRef (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix3 b p d) := by
  rw [ffnBlk_at, ffnRef_at]
  congr 1
  · funext k; exact (hv k).trans (blk0 m c t _ k b p hbp)
  · funext k; exact blk1 m c t k
  · funext k f; exact blk2 m c t k f
  · funext k f; exact blk3 m c t k f
  · funext k f; exact blk4 m c t k f
  · funext k; exact blk5 m c t k

/-- The same at an index of a stored piece, the piece's place in the tile as hypotheses. -/
theorem pieceAt (c : Dev nD) (t : Fin cfg0.N) (v : FVec Ideal S256x1024 .f32) (q : ℕ) (n d : Fin 1024) (x : S256x1024.Idx)
    (h0 : n.val = q + (x 0).val) (h1 : d.val = (x 1).val)
    (hv : ∀ (r : Fin 256) (k : Fin 1024) (h : q + r.val < 1024), v (ix2 r k) = (show FVec Ideal S1024x1024 .f32 from iblk m c 0 t) (ix2 ⟨q + r.val, h⟩ k))
    (b : Fin 32) (p : Fin 2048) (hbp : b.val * 2048 + p.val = t.val * 1024 + n.val) :
    ffnBlk v (iblk m c 1 t) (iblk m c 2 t) (iblk m c 3 t) (iblk m c 4 t) (iblk m c 5 t) x
      = ffnRef (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix3 b p d) := by
  have hx : x = ix2 (x 0) d := by
    funext a; fin_cases a
    · rfl
    · exact Fin.ext h1.symm
  rw [hx]
  exact rowAt m c t v q (x 0) d (h0 ▸ n.isLt) (fun k => hv (x 0) k _) b p (by rw [hbp, h0])

/-- POINT: what the body leaves at block index `y` of point `t` is the reference's layer on the token of that row. -/
theorem point (c : Dev nD) (t : Fin cfg0.N) (n d : Fin 1024) (b : Fin 32) (p : Fin 2048)
    (hbp : b.val * 2048 + p.val = t.val * 1024 + n.val) :
    out0_6 (iblk m c 0 t) (iblk m c 1 t) (iblk m c 2 t) (iblk m c 3 t) (iblk m c 4 t) (iblk m c 5 t) (ix2 n d)
      = ffnRef (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix3 b p d) := by
  rw [pieces]
  canon_tiles x h
  case piece0 => exact pieceAt m c t _ 768 n d x h0 h1 (fun r k _ => ld_r0_4 _ r k) b p hbp
  case piece1 => exact pieceAt m c t _ 512 n d x h0 h1 (fun r k _ => ld_r0_3 _ r k) b p hbp
  case piece2 => exact pieceAt m c t _ 256 n d x h0 h1 (fun r k _ => ld_r0_2 _ r k) b p hbp
  case piece3 => exact pieceAt m c t _ 0 n d x (h0.trans (Nat.zero_add _).symm) h1 (fun r k _ => ld_r0_0 _ r k) b p hbp

/-- The result array after the run is the reference's result. -/
theorem final (c : Dev nD) : (dats m 0 c).arrAt 6 (cfgs 0).N
      = resRef (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t _ y => ?_
  blk_simp
  rw [after0_6]
  have ht := (idx t).2.2.2.2.2.2.2
  obtain ⟨n, d, rfl⟩ : ∃ (n d : Fin 1024), y = ix2 n d := ⟨y 0, y 1, by funext a; fin_cases a <;> rfl⟩
  have e : ((cfg0.win 6).blk t).view.emb (ix2 n d) = (ix2 ⟨t.val * 1024 + n.val, by omega⟩ d : S65536x1024.Idx) := by
    blk_ext [idx t]
  refine Eq.trans ?_ (congrArg _ e).symm
  have hb : (t.val * 1024 + n.val) / 2048 < 32 := by omega
  have hp : (t.val * 1024 + n.val) % 2048 < 2048 := Nat.mod_lt _ (by decide)
  have hbp : (t.val * 1024 + n.val) / 2048 * 2048 + (t.val * 1024 + n.val) % 2048 = t.val * 1024 + n.val := by omega
  refine (point m c t n d ⟨_, hb⟩ ⟨_, hp⟩ hbp).trans ?_
  exact (resRef_at _ _ _ _ _ _ _ d ⟨_, hb⟩ ⟨_, hp⟩ hbp).symm

end Cert.Kernel2Ideal.Value
end
-- ==== Proof.FfnClaims.lean ====
module

public import proofs.«01_k».proof.Defs
public import proofs.«01_k».proof.Proof.FfnValue
public import proofs.«01_k».proof.Proof.Gen.Kernel2.Frame
public import Idealize.ShloMosaic.Lib.Claim

@[expose] public section

set_option maxRecDepth 16384

noncomputable section

namespace Cert.Proof

open Idealize.ShloMosaic Idealize.SL.Sem

/-- The feed-forward kernel's frame claim. -/
theorem frame_ffn : Cert.quiescent_Kernel2 := fun m g _ => Cert.Kernel2.Gen.frame m g

/-- The idealized feed-forward kernel's frame claim. -/
theorem frame_ffn_ideal : Cert.quiescent_Kernel2Ideal := fun m g _ => Cert.Kernel2Ideal.Gen.frame m g

/-- The feed-forward reference's frame claim. -/
theorem frame_ffn_reference : Cert.quiescent_Reference2Ideal := by
  intro m g _
  run_from Cert.Reference2Ideal.Value.run m g
  · exact fun _ => ⟨trivial, trivial, trivial, trivial, trivial, trivial⟩
  · exact sem_eq_zero_of_no_sems rfl _

/-- The feed-forward kernel computes the feed-forward reference over the extended reals. -/
theorem algebraic_ffn : Cert.algebraic_Kernel2Ideal_Reference2Ideal := by
  pair_intro
  · run_from Cert.Kernel2Ideal.Gen.run_main m g
  · run_from Cert.Reference2Ideal.Value.run m' g'
    rw [Cert.Kernel2Ideal.Value.final m c]
    obtain ⟨h0, h1, h2, h3, h4, h5⟩ := hagree c
    refine (Cert.Reference2Ideal.Value.res_eq m' c).trans ?_
    rw [h0, h1, h2, h3, h4, h5]

end Cert.Proof
end
-- ==== Proof.lean ====
module

public import proofs.«01_k».proof.Defs
public import proofs.«01_k».proof.Proof.MixClaims
public import proofs.«01_k».proof.Proof.FfnClaims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_attention_finite.facts,
    frame_mixer, frame_mixer_ideal, frame_mixer_ideal_finite, frame_mixer_reference, frame_mixer_reference_finite,
    frame_ffn, frame_ffn_ideal, frame_ffn_reference, trivial, algebraic_mixer, trivial, algebraic_ffn⟩

end Cert.Proof
